-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m ((c.tc : Thread Cert.KernelIdeal.nD Cert.KernelIdeal.τ).loc Cert.KernelIdeal.main_arg0) = Layout.block ⟨2, ![1024, 4096]⟩ ⟨2, ![4096, 4096]⟩ 0 4 c (m' (((0 : Dev Cert.ReferenceIdeal.nD).tc : Thread Cert.ReferenceIdeal.nD Cert.ReferenceIdeal.τ).loc Cert.ReferenceIdeal.main_arg0))
      ∧ m ((c.tc : Thread Cert.KernelIdeal.nD Cert.KernelIdeal.τ).loc Cert.KernelIdeal.main_arg1) = Layout.block ⟨2, ![4096, 2048]⟩ ⟨2, ![4096, 8192]⟩ 1 4 c (m' (((0 : Dev Cert.ReferenceIdeal.nD).tc : Thread Cert.ReferenceIdeal.nD Cert.ReferenceIdeal.τ).loc Cert.ReferenceIdeal.main_arg1))) →
    ∃ (v0 : Buf (Elt Ideal) (((0 : Dev Cert.ReferenceIdeal.nD).tc : Thread Cert.ReferenceIdeal.nD Cert.ReferenceIdeal.τ).loc Cert.ReferenceIdeal.main_v9)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1_0) = Layout.block ⟨2, ![4096, 2048]⟩ ⟨2, ![4096, 8192]⟩ 1 4 c v0
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r =>
          r.2.mem (((0 : Dev Cert.ReferenceIdeal.nD).tc : Thread Cert.ReferenceIdeal.nD Cert.ReferenceIdeal.τ).loc Cert.ReferenceIdeal.main_v9) = v0
          ∧ r.2.mem (((0 : Dev Cert.ReferenceIdeal.nD).tc : Thread Cert.ReferenceIdeal.nD Cert.ReferenceIdeal.τ).loc Cert.ReferenceIdeal.main_arg0) = m' (((0 : Dev Cert.ReferenceIdeal.nD).tc : Thread Cert.ReferenceIdeal.nD Cert.ReferenceIdeal.τ).loc Cert.ReferenceIdeal.main_arg0)
          ∧ r.2.mem (((0 : Dev Cert.ReferenceIdeal.nD).tc : Thread Cert.ReferenceIdeal.nD Cert.ReferenceIdeal.τ).loc Cert.ReferenceIdeal.main_arg1) = m' (((0 : Dev Cert.ReferenceIdeal.nD).tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts),
    quiescent_Kernel (hKernel := hKernel)
    ∧ quiescent_KernelIdeal (hKernelIdeal := hKernelIdeal)
    ∧ quiescent_ReferenceIdeal (hReferenceIdeal := hReferenceIdeal)
    ∧ preserves_Kernel_KernelIdeal
    ∧ algebraic_KernelIdeal_ReferenceIdeal (hKernelIdeal := hKernelIdeal) (hReferenceIdeal := hReferenceIdeal)
-- ==== Kernel.lean ====
abbrev S1024x4096 : Shape := ⟨2, ![1024, 4096]⟩
abbrev S4096x2048 : Shape := ⟨2, ![4096, 2048]⟩
abbrev S3x1024x4096 : Shape := ⟨3, ![3, 1024, 4096]⟩
abbrev S2x512x4096 : Shape := ⟨3, ![2, 512, 4096]⟩
abbrev S512x2048 : Shape := ⟨2, ![512, 2048]⟩
abbrev S3x512x2048 : Shape := ⟨3, ![3, 512, 2048]⟩
abbrev S6 : Shape := ⟨1, ![6]⟩
abbrev S8 : Shape := ⟨1, ![8]⟩
abbrev S4x8x128 : Shape := ⟨3, ![4, 8, 128]⟩
abbrev S3 : Shape := ⟨1, ![3]⟩
abbrev S1 : Shape := ⟨1, ![1]⟩
abbrev S_ : Shape := ⟨0, ![]⟩
abbrev S1x512x4096 : Shape := ⟨3, ![1, 512, 4096]⟩
abbrev S512x4096 : Shape := ⟨2, ![512, 4096]⟩
abbrev S1x512x2048 : Shape := ⟨3, ![1, 512, 2048]⟩
abbrev S1x1x1 : Shape := ⟨3, ![1, 1, 1]⟩
abbrev S8x128 : Shape := ⟨2, ![8, 128]⟩
abbrev S1x8x128 : Shape := ⟨3, ![1, 8, 128]⟩
abbrev S1x4x8x128 : Shape := ⟨4, ![1, 4, 8, 128]⟩
abbrev S1x1x1x1 : Shape := ⟨4, ![1, 1, 1, 1]⟩

abbrev nBuf : Space → Nat
  | .hbm => 4
  | .vmem => 7
  | .smem => 0
  | _ => 0

abbrev bufTy : (tb : Table) → Fin (tcTables nBuf tb) → BufTy
  | .hbm, ⟨0, _⟩ => ⟨S1024x4096, .f32⟩
  | .hbm, ⟨1, _⟩ => ⟨S4096x2048, .f32⟩
  | .hbm, ⟨2, _⟩ => ⟨S4096x2048, .bf16⟩
  | .hbm, ⟨3, _⟩ => ⟨S3x1024x4096, .bf16⟩
  | .local _ .vmem, ⟨0, _⟩ => ⟨S1024x4096, .bf16⟩
  | .local _ .vmem, ⟨1, _⟩ => ⟨S4096x2048, .bf16⟩
  | .local _ .vmem, ⟨2, _⟩ => ⟨S2x512x4096, .bf16⟩
  | .local _ .vmem, ⟨3, _⟩ => ⟨S512x2048, .f32⟩
  | .local _ .vmem, ⟨4, _⟩ => ⟨S512x2048, .f32⟩
  | .local _ .vmem, ⟨5, _⟩ => ⟨S3x512x2048, .bf16⟩
  | .local _ .vmem, ⟨6, _⟩ => ⟨S4x8x128, .f32⟩
  | _, _ => ⟨S1024x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 1 → Bool
  | ⟨0, _⟩ => false
  | _ => false

abbrev dmaSemScoped : Fin 26 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | _ => false

abbrev sig : RefSig :=
  (ofTc nBuf bufTy 1 26 bufScoped semScoped dmaSemScoped tileCredit tileCredit_eq_zero tileCredit_pos).withBarriers [(0, 0)]

abbrev main_arg0 : Ref sig .tc := ⟨.hbm, 0, rfl⟩
abbrev main_arg1 : Ref sig .tc := ⟨.hbm, 1, rfl⟩
abbrev main_v1_0 : Ref sig .tc := ⟨.hbm, 2, rfl⟩
abbrev main_v1_1 : Ref sig .tc := ⟨.hbm, 3, rfl⟩
abbrev cc0_scratch0 : Ref sig .tc := ⟨.vmem, 0, rfl⟩
abbrev cc0_scratch1 : Ref sig .tc := ⟨.vmem, 1, rfl⟩
abbrev cc0_scratch2 : Ref sig .tc := ⟨.vmem, 2, rfl⟩
abbrev cc0_scratch3 : Ref sig .tc := ⟨.vmem, 3, rfl⟩
abbrev cc0_scratch4 : Ref sig .tc := ⟨.vmem, 4, rfl⟩
abbrev cc0_scratch5 : Ref sig .tc := ⟨.vmem, 5, rfl⟩
abbrev cc0_scratch9 : Ref sig .tc := ⟨.vmem, 6, rfl⟩
abbrev barrier0 : Sem sig := 0

abbrev nD : Nat := 4
abbrev τ : Topo := Topo.v7x

variable {F : FTy → Type} [FloatOps F]

abbrev grid0 : Pipeline.Grid := .none

def k0_dev1 (d0 : Dev nD) : Nat :=
  let c0_i32_32 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_0 : BitVec 32 := 1#32
  let v3 : BitVec 32 := Scalar.subi v2 c1_i32_0
  let c4_i32_1 : BitVec 32 := 4#32
  let c0_i32 : BitVec 32 := 0#32
  let v4 : BitVec 1 := Scalar.cmpi .eq c4_i32_1 c0_i32
  let c1_i32_2 : BitVec 32 := 1#32
  let v5 : BitVec 32 := Scalar.select v4 c1_i32_2 c4_i32_1
  let v6 : BitVec 32 := Scalar.remsi v3 v5
  let c0_i32_4 : BitVec 32 := 0#32
  let v8 : BitVec 1 := Scalar.cmpi .slt v6 c0_i32_4
  let c0_i32_5 : BitVec 32 := 0#32
  let v9 : BitVec 1 := Scalar.cmpi .slt v5 c0_i32_5
  let v10 : BitVec 1 := Scalar.xori v8 v9
  let c0_i32_3 : BitVec 32 := 0#32
  let v7 : BitVec 1 := Scalar.cmpi .ne v6 c0_i32_3
  let v11 : BitVec 1 := Scalar.andi v10 v7
  let v12 : BitVec 32 := Scalar.addi v6 v5
  let v13 : BitVec 32 := Scalar.select v11 v12 v6
  let c1_i32_31 : BitVec 32 := 1#32
  let v48 : BitVec 32 := Scalar.muli v13 c1_i32_31
  let v49 : BitVec 32 := Scalar.addi c0_i32_32 v48
  v49.toNat
def k0_dev2 (d0 : Dev nD) : Nat :=
  let c0_i32_35 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_6 : BitVec 32 := 1#32
  let v14 : BitVec 32 := Scalar.addi v2 c1_i32_6
  let c4_i32_7 : BitVec 32 := 4#32
  let c0_i32_8 : BitVec 32 := 0#32
  let v15 : BitVec 1 := Scalar.cmpi .eq c4_i32_7 c0_i32_8
  let c1_i32_9 : BitVec 32 := 1#32
  let v16 : BitVec 32 := Scalar.select v15 c1_i32_9 c4_i32_7
  let v17 : BitVec 32 := Scalar.remsi v14 v16
  let c0_i32_11 : BitVec 32 := 0#32
  let v19 : BitVec 1 := Scalar.cmpi .slt v17 c0_i32_11
  let c0_i32_12 : BitVec 32 := 0#32
  let v20 : BitVec 1 := Scalar.cmpi .slt v16 c0_i32_12
  let v21 : BitVec 1 := Scalar.xori v19 v20
  let c0_i32_10 : BitVec 32 := 0#32
  let v18 : BitVec 1 := Scalar.cmpi .ne v17 c0_i32_10
  let v22 : BitVec 1 := Scalar.andi v21 v18
  let v23 : BitVec 32 := Scalar.addi v17 v16
  let v24 : BitVec 32 := Scalar.select v22 v23 v17
  let c1_i32_34 : BitVec 32 := 1#32
  let v50 : BitVec 32 := Scalar.muli v24 c1_i32_34
  let v51 : BitVec 32 := Scalar.addi c0_i32_35 v50
  v51.toNat
def k0_dev3 (d0 : Dev nD) : Nat :=
  let c0_i32_40 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_6 : BitVec 32 := 1#32
  let v14 : BitVec 32 := Scalar.addi v2 c1_i32_6
  let c4_i32_7 : BitVec 32 := 4#32
  let c0_i32_8 : BitVec 32 := 0#32
  let v15 : BitVec 1 := Scalar.cmpi .eq c4_i32_7 c0_i32_8
  let c1_i32_9 : BitVec 32 := 1#32
  let v16 : BitVec 32 := Scalar.select v15 c1_i32_9 c4_i32_7
  let v17 : BitVec 32 := Scalar.remsi v14 v16
  let c0_i32_11 : BitVec 32 := 0#32
  let v19 : BitVec 1 := Scalar.cmpi .slt v17 c0_i32_11
  let c0_i32_12 : BitVec 32 := 0#32
  let v20 : BitVec 1 := Scalar.cmpi .slt v16 c0_i32_12
  let v21 : BitVec 1 := Scalar.xori v19 v20
  let c0_i32_10 : BitVec 32 := 0#32
  let v18 : BitVec 1 := Scalar.cmpi .ne v17 c0_i32_10
  let v22 : BitVec 1 := Scalar.andi v21 v18
  let v23 : BitVec 32 := Scalar.addi v17 v16
  let v24 : BitVec 32 := Scalar.select v22 v23 v17
  let c1_i32_39 : BitVec 32 := 1#32
  let v52 : BitVec 32 := Scalar.muli v24 c1_i32_39
  let v53 : BitVec 32 := Scalar.addi c0_i32_40 v52
  v53.toNat
def k0_dev4 (d0 : Dev nD) : Nat :=
  let c0_i32_49 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_0 : BitVec 32 := 1#32
  let v3 : BitVec 32 := Scalar.subi v2 c1_i32_0
  let c4_i32_1 : BitVec 32 := 4#32
  let c0_i32 : BitVec 32 := 0#32
  let v4 : BitVec 1 := Scalar.cmpi .eq c4_i32_1 c0_i32
  let c1_i32_2 : BitVec 32 := 1#32
  let v5 : BitVec 32 := Scalar.select v4 c1_i32_2 c4_i32_1
  let v6 : BitVec 32 := Scalar.remsi v3 v5
  let c0_i32_4 : BitVec 32 := 0#32
  let v8 : BitVec 1 := Scalar.cmpi .slt v6 c0_i32_4
  let c0_i32_5 : BitVec 32 := 0#32
  let v9 : BitVec 1 := Scalar.cmpi .slt v5 c0_i32_5
  let v10 : BitVec 1 := Scalar.xori v8 v9
  let c0_i32_3 : BitVec 32 := 0#32
  let v7 : BitVec 1 := Scalar.cmpi .ne v6 c0_i32_3
  let v11 : BitVec 1 := Scalar.andi v10 v7
  let v12 : BitVec 32 := Scalar.addi v6 v5
  let v13 : BitVec 32 := Scalar.select v11 v12 v6
  let c1_i32_48 : BitVec 32 := 1#32
  let v61 : BitVec 32 := Scalar.muli v13 c1_i32_48
  let v62 : BitVec 32 := Scalar.addi c0_i32_49 v61
  v62.toNat
def k0_dev5 (d0 : Dev nD) : Nat :=
  let c0_i32_76 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_6 : BitVec 32 := 1#32
  let v14 : BitVec 32 := Scalar.addi v2 c1_i32_6
  let c4_i32_7 : BitVec 32 := 4#32
  let c0_i32_8 : BitVec 32 := 0#32
  let v15 : BitVec 1 := Scalar.cmpi .eq c4_i32_7 c0_i32_8
  let c1_i32_9 : BitVec 32 := 1#32
  let v16 : BitVec 32 := Scalar.select v15 c1_i32_9 c4_i32_7
  let v17 : BitVec 32 := Scalar.remsi v14 v16
  let c0_i32_11 : BitVec 32 := 0#32
  let v19 : BitVec 1 := Scalar.cmpi .slt v17 c0_i32_11
  let c0_i32_12 : BitVec 32 := 0#32
  let v20 : BitVec 1 := Scalar.cmpi .slt v16 c0_i32_12
  let v21 : BitVec 1 := Scalar.xori v19 v20
  let c0_i32_10 : BitVec 32 := 0#32
  let v18 : BitVec 1 := Scalar.cmpi .ne v17 c0_i32_10
  let v22 : BitVec 1 := Scalar.andi v21 v18
  let v23 : BitVec 32 := Scalar.addi v17 v16
  let v24 : BitVec 32 := Scalar.select v22 v23 v17
  let c1_i32_75 : BitVec 32 := 1#32
  let v92 : BitVec 32 := Scalar.muli v24 c1_i32_75
  let v93 : BitVec 32 := Scalar.addi c0_i32_76 v92
  v93.toNat
def k0_dev6 (d0 : Dev nD) : Nat :=
  let c0_i32_84 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_0 : BitVec 32 := 1#32
  let v3 : BitVec 32 := Scalar.subi v2 c1_i32_0
  let c4_i32_1 : BitVec 32 := 4#32
  let c0_i32 : BitVec 32 := 0#32
  let v4 : BitVec 1 := Scalar.cmpi .eq c4_i32_1 c0_i32
  let c1_i32_2 : BitVec 32 := 1#32
  let v5 : BitVec 32 := Scalar.select v4 c1_i32_2 c4_i32_1
  let v6 : BitVec 32 := Scalar.remsi v3 v5
  let c0_i32_4 : BitVec 32 := 0#32
  let v8 : BitVec 1 := Scalar.cmpi .slt v6 c0_i32_4
  let c0_i32_5 : BitVec 32 := 0#32
  let v9 : BitVec 1 := Scalar.cmpi .slt v5 c0_i32_5
  let v10 : BitVec 1 := Scalar.xori v8 v9
  let c0_i32_3 : BitVec 32 := 0#32
  let v7 : BitVec 1 := Scalar.cmpi .ne v6 c0_i32_3
  let v11 : BitVec 1 := Scalar.andi v10 v7
  let v12 : BitVec 32 := Scalar.addi v6 v5
  let v13 : BitVec 32 := Scalar.select v11 v12 v6
  let c1_i32_83 : BitVec 32 := 1#32
  let v101 : BitVec 32 := Scalar.muli v13 c1_i32_83
  let v102 : BitVec 32 := Scalar.addi c0_i32_84 v101
  v102.toNat
def k0_off1 (d0 : Dev nD) (c0_i32_169 : BitVec 32) : Fin 2 → Nat :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1024_i32_168 : BitVec 32 := 1024#32
  let v211 : BitVec 32 := Scalar.muli v2 c1024_i32_168
  let v212 : BitVec 32 := Scalar.addi v211 c0_i32_169
  let c0_i32_172 : BitVec 32 := 0#32
  ![v212.toNat, 0]
def k0_dev7 (d0 : Dev nD) : Nat :=
  let c0_i32_204 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_6 : BitVec 32 := 1#32
  let v14 : BitVec 32 := Scalar.addi v2 c1_i32_6
  let c4_i32_7 : BitVec 32 := 4#32
  let c0_i32_8 : BitVec 32 := 0#32
  let v15 : BitVec 1 := Scalar.cmpi .eq c4_i32_7 c0_i32_8
  let c1_i32_9 : BitVec 32 := 1#32
  let v16 : BitVec 32 := Scalar.select v15 c1_i32_9 c4_i32_7
  let v17 : BitVec 32 := Scalar.remsi v14 v16
  let c0_i32_11 : BitVec 32 := 0#32
  let v19 : BitVec 1 := Scalar.cmpi .slt v17 c0_i32_11
  let c0_i32_12 : BitVec 32 := 0#32
  let v20 : BitVec 1 := Scalar.cmpi .slt v16 c0_i32_12
  let v21 : BitVec 1 := Scalar.xori v19 v20
  let c0_i32_10 : BitVec 32 := 0#32
  let v18 : BitVec 1 := Scalar.cmpi .ne v17 c0_i32_10
  let v22 : BitVec 1 := Scalar.andi v21 v18
  let v23 : BitVec 32 := Scalar.addi v17 v16
  let v24 : BitVec 32 := Scalar.select v22 v23 v17
  let c1_i32_203 : BitVec 32 := 1#32
  let v245 : BitVec 32 := Scalar.muli v24 c1_i32_203
  let v246 : BitVec 32 := Scalar.addi c0_i32_204 v245
  v246.toNat
def k0_off2 (d0 : Dev nD) (c0_i32_239 : BitVec 32) : Fin 2 → Nat :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_0 : BitVec 32 := 1#32
  let v3 : BitVec 32 := Scalar.subi v2 c1_i32_0
  let c4_i32_1 : BitVec 32 := 4#32
  let c0_i32 : BitVec 32 := 0#32
  let v4 : BitVec 1 := Scalar.cmpi .eq c4_i32_1 c0_i32
  let c1_i32_2 : BitVec 32 := 1#32
  let v5 : BitVec 32 := Scalar.select v4 c1_i32_2 c4_i32_1
  let v6 : BitVec 32 := Scalar.remsi v3 v5
  let c0_i32_4 : BitVec 32 := 0#32
  let v8 : BitVec 1 := Scalar.cmpi .slt v6 c0_i32_4
  let c0_i32_5 : BitVec 32 := 0#32
  let v9 : BitVec 1 := Scalar.cmpi .slt v5 c0_i32_5
  let v10 : BitVec 1 := Scalar.xori v8 v9
  let c0_i32_3 : BitVec 32 := 0#32
  let v7 : BitVec 1 := Scalar.cmpi .ne v6 c0_i32_3
  let v11 : BitVec 1 := Scalar.andi v10 v7
  let v12 : BitVec 32 := Scalar.addi v6 v5
  let v13 : BitVec 32 := Scalar.select v11 v12 v6
  let c1024_i32_238 : BitVec 32 := 1024#32
  let v286 : BitVec 32 := Scalar.muli v13 c1024_i32_238
  let v287 : BitVec 32 := Scalar.addi v286 c0_i32_239
  let c0_i32_242 : BitVec 32 := 0#32
  ![v287.toNat, 0]
def k0_off3 (d0 : Dev nD) (c1_i32_6 : BitVec 32) (c0_i32_284 : BitVec 32) : Fin 2 → Nat :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let v14 : BitVec 32 := Scalar.addi v2 c1_i32_6
  let c4_i32_7 : BitVec 32 := 4#32
  let c0_i32_8 : BitVec 32 := 0#32
  let v15 : BitVec 1 := Scalar.cmpi .eq c4_i32_7 c0_i32_8
  let c1_i32_9 : BitVec 32 := 1#32
  let v16 : BitVec 32 := Scalar.select v15 c1_i32_9 c4_i32_7
  let v17 : BitVec 32 := Scalar.remsi v14 v16
  let c0_i32_11 : BitVec 32 := 0#32
  let v19 : BitVec 1 := Scalar.cmpi .slt v17 c0_i32_11
  let c0_i32_12 : BitVec 32 := 0#32
  let v20 : BitVec 1 := Scalar.cmpi .slt v16 c0_i32_12
  let v21 : BitVec 1 := Scalar.xori v19 v20
  let c0_i32_10 : BitVec 32 := 0#32
  let v18 : BitVec 1 := Scalar.cmpi .ne v17 c0_i32_10
  let v22 : BitVec 1 := Scalar.andi v21 v18
  let v23 : BitVec 32 := Scalar.addi v17 v16
  let v24 : BitVec 32 := Scalar.select v22 v23 v17
  let c1024_i32_283 : BitVec 32 := 1024#32
  let v331 : BitVec 32 := Scalar.muli v24 c1024_i32_283
  let v332 : BitVec 32 := Scalar.addi v331 c0_i32_284
  let c0_i32_287 : BitVec 32 := 0#32
  ![v332.toNat, 0]
def k0_dev8 (d0 : Dev nD) : Nat :=
  let c0_i32_348 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_0 : BitVec 32 := 1#32
  let v3 : BitVec 32 := Scalar.subi v2 c1_i32_0
  let c4_i32_1 : BitVec 32 := 4#32
  let c0_i32 : BitVec 32 := 0#32
  let v4 : BitVec 1 := Scalar.cmpi .eq c4_i32_1 c0_i32
  let c1_i32_2 : BitVec 32 := 1#32
  let v5 : BitVec 32 := Scalar.select v4 c1_i32_2 c4_i32_1
  let v6 : BitVec 32 := Scalar.remsi v3 v5
  let c0_i32_4 : BitVec 32 := 0#32
  let v8 : BitVec 1 := Scalar.cmpi .slt v6 c0_i32_4
  let c0_i32_5 : BitVec 32 := 0#32
  let v9 : BitVec 1 := Scalar.cmpi .slt v5 c0_i32_5
  let v10 : BitVec 1 := Scalar.xori v8 v9
  let c0_i32_3 : BitVec 32 := 0#32
  let v7 : BitVec 1 := Scalar.cmpi .ne v6 c0_i32_3
  let v11 : BitVec 1 := Scalar.andi v10 v7
  let v12 : BitVec 32 := Scalar.addi v6 v5
  let v13 : BitVec 32 := Scalar.select v11 v12 v6
  let c1_i32_347 : BitVec 32 := 1#32
  let v390 : BitVec 32 := Scalar.muli v13 c1_i32_347
  let v391 : BitVec 32 := Scalar.addi c0_i32_348 v390
  v391.toNat
def k0_dev9 (d0 : Dev nD) : Nat :=
  let c0_i32_511 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_499 : BitVec 32 := 1#32
  let v558 : BitVec 32 := Scalar.addi v2 c1_i32_499
  let c4_i32_500 : BitVec 32 := 4#32
  let c0_i32_501 : BitVec 32 := 0#32
  let v559 : BitVec 1 := Scalar.cmpi .eq c4_i32_500 c0_i32_501
  let c1_i32_502 : BitVec 32 := 1#32
  let v560 : BitVec 32 := Scalar.select v559 c1_i32_502 c4_i32_500
  let v561 : BitVec 32 := Scalar.remsi v558 v560
  let c0_i32_504 : BitVec 32 := 0#32
  let v563 : BitVec 1 := Scalar.cmpi .slt v561 c0_i32_504
  let c0_i32_505 : BitVec 32 := 0#32
  let v564 : BitVec 1 := Scalar.cmpi .slt v560 c0_i32_505
  let v565 : BitVec 1 := Scalar.xori v563 v564
  let c0_i32_503 : BitVec 32 := 0#32
  let v562 : BitVec 1 := Scalar.cmpi .ne v561 c0_i32_503
  let v566 : BitVec 1 := Scalar.andi v565 v562
  let v567 : BitVec 32 := Scalar.addi v561 v560
  let v568 : BitVec 32 := Scalar.select v566 v567 v561
  let c1_i32_510 : BitVec 32 := 1#32
  let v569 : BitVec 32 := Scalar.muli v568 c1_i32_510
  let v570 : BitVec 32 := Scalar.addi c0_i32_511 v569
  v570.toNat
def k0_dev10 (d0 : Dev nD) : Nat :=
  let c0_i32_528 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c2_i32_516 : BitVec 32 := 2#32
  let v579 : BitVec 32 := Scalar.addi v2 c2_i32_516
  let c4_i32_517 : BitVec 32 := 4#32
  let c0_i32_518 : BitVec 32 := 0#32
  let v580 : BitVec 1 := Scalar.cmpi .eq c4_i32_517 c0_i32_518
  let c1_i32_519 : BitVec 32 := 1#32
  let v581 : BitVec 32 := Scalar.select v580 c1_i32_519 c4_i32_517
  let v582 : BitVec 32 := Scalar.remsi v579 v581
  let c0_i32_521 : BitVec 32 := 0#32
  let v584 : BitVec 1 := Scalar.cmpi .slt v582 c0_i32_521
  let c0_i32_522 : BitVec 32 := 0#32
  let v585 : BitVec 1 := Scalar.cmpi .slt v581 c0_i32_522
  let v586 : BitVec 1 := Scalar.xori v584 v585
  let c0_i32_520 : BitVec 32 := 0#32
  let v583 : BitVec 1 := Scalar.cmpi .ne v582 c0_i32_520
  let v587 : BitVec 1 := Scalar.andi v586 v583
  let v588 : BitVec 32 := Scalar.addi v582 v581
  let v589 : BitVec 32 := Scalar.select v587 v588 v582
  let c1_i32_527 : BitVec 32 := 1#32
  let v590 : BitVec 32 := Scalar.muli v589 c1_i32_527
  let v591 : BitVec 32 := Scalar.addi c0_i32_528 v590
  v591.toNat
def k0_dev11 (d0 : Dev nD) : Nat :=
  let c0_i32_545 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c3_i32_533 : BitVec 32 := 3#32
  let v600 : BitVec 32 := Scalar.addi v2 c3_i32_533
  let c4_i32_534 : BitVec 32 := 4#32
  let c0_i32_535 : BitVec 32 := 0#32
  let v601 : BitVec 1 := Scalar.cmpi .eq c4_i32_534 c0_i32_535
  let c1_i32_536 : BitVec 32 := 1#32
  let v602 : BitVec 32 := Scalar.select v601 c1_i32_536 c4_i32_534
  let v603 : BitVec 32 := Scalar.remsi v600 v602
  let c0_i32_538 : BitVec 32 := 0#32
  let v605 : BitVec 1 := Scalar.cmpi .slt v603 c0_i32_538
  let c0_i32_539 : BitVec 32 := 0#32
  let v606 : BitVec 1 := Scalar.cmpi .slt v602 c0_i32_539
  let v607 : BitVec 1 := Scalar.xori v605 v606
  let c0_i32_537 : BitVec 32 := 0#32
  let v604 : BitVec 1 := Scalar.cmpi .ne v603 c0_i32_537
  let v608 : BitVec 1 := Scalar.andi v607 v604
  let v609 : BitVec 32 := Scalar.addi v603 v602
  let v610 : BitVec 32 := Scalar.select v608 v609 v603
  let c1_i32_544 : BitVec 32 := 1#32
  let v611 : BitVec 32 := Scalar.muli v610 c1_i32_544
  let v612 : BitVec 32 := Scalar.addi c0_i32_545 v611
  v612.toNat
-- ==== ReferenceIdeal.lean ====
abbrev S4096x4096 : Shape := ⟨2, ![4096, 4096]⟩
abbrev S4096x8192 : Shape := ⟨2, ![4096, 8192]⟩
abbrev S_ : Shape := ⟨0, ![]⟩
abbrev S1x1 : Shape := ⟨2, ![1, 1]⟩

abbrev nBuf : Space → Nat
  | .hbm => 21
  | .vmem => 3
  | .smem => 0
  | _ => 0

abbrev bufTy : (tb : Table) → Fin (tcTables nBuf tb) → BufTy
  | .hbm, ⟨0, _⟩ => ⟨S4096x4096, .f32⟩
  | .hbm, ⟨1, _⟩ => ⟨S4096x8192, .f32⟩
  | .hbm, ⟨2, _⟩ => ⟨S4096x8192, .f32⟩
  | .hbm, ⟨3, _⟩ => ⟨S4096x8192, .f32⟩
  | .hbm, ⟨4, _⟩ => ⟨S_, .f32⟩
  | .hbm, ⟨5, _⟩ => ⟨S_, .f32⟩
  | .hbm, ⟨6, _⟩ => ⟨S_, .f32⟩
  | .hbm, ⟨7, _⟩ => ⟨S_, .f32⟩
  | .hbm, ⟨8, _⟩ => ⟨S4096x8192, .f32⟩
  | .hbm, ⟨9, _⟩ => ⟨S4096x8192, .f32⟩
  | .hbm, ⟨10, _⟩ => ⟨S_, .f32⟩
  | .hbm, ⟨11, _⟩ => ⟨S_, .f32⟩
  | .hbm, ⟨12, _⟩ => ⟨S_, .f32⟩
  | .hbm, ⟨13, _⟩ => ⟨S4096x8192, .f32⟩
  | .hbm, ⟨14, _⟩ => ⟨S4096x8192, .f32⟩
  | .hbm, ⟨15, _⟩ => ⟨S_, .f32⟩
  | .hbm, ⟨16, _⟩ => ⟨S4096x8192, .f32⟩
  | .hbm, ⟨17, _⟩ => ⟨S4096x8192, .f32⟩
  | .hbm, ⟨18, _⟩ => ⟨S4096x8192, .fp8e4m3⟩
  | .hbm, ⟨19, _⟩ => ⟨S1x1, .f32⟩
  | .hbm, ⟨20, _⟩ => ⟨S4096x8192, .bf16⟩
  | .local _ .vmem, ⟨0, _⟩ => ⟨S4096x8192, .fp8e4m3⟩
  | .local _ .vmem, ⟨1, _⟩ => ⟨S1x1, .f32⟩
  | .local _ .vmem, ⟨2, _⟩ => ⟨S4096x8192, .bf16⟩
  | _, _ => ⟨S4096x4096, .f32⟩

abbrev bufScoped : (cs : CoreSpace) → Fin (nBuf (.core cs)) → Bool
  | .vmem, ⟨0, _⟩ => true
  | .vmem, ⟨1, _⟩ => true
  | .vmem, ⟨2, _⟩ => true
  | _, _ => false

abbrev semScoped : Fin 0 → Bool
  | ⟨_, h⟩ => absurd h (Nat.not_lt_zero _)

abbrev dmaSemScoped : Fin 3 → Bool
  | ⟨0, _⟩ => true
  | ⟨1, _⟩ => true
  | ⟨2, _⟩ => true
  | _ => false

abbrev sig : RefSig :=
  ofTc nBuf bufTy 0 3 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_cst : Ref sig .tc := ⟨.hbm, 4, rfl⟩
abbrev main_v2 : Ref sig .tc := ⟨.hbm, 5, rfl⟩
abbrev main_cst_0 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_cst_1 : Ref sig .tc := ⟨.hbm, 10, rfl⟩
abbrev main_cst_2 : Ref sig .tc := ⟨.hbm, 11, rfl⟩
abbrev main_call0_v0 : Ref sig .tc := ⟨.hbm, 12, rfl⟩
abbrev main_call0_v1 : Ref sig .tc := ⟨.hbm, 13, rfl⟩
abbrev main_call0_v2 : Ref sig .tc := ⟨.hbm, 14, rfl⟩
abbrev main_call0_v3 : Ref sig .tc := ⟨.hbm, 15, rfl⟩
abbrev main_call0_v4 : Ref sig .tc := ⟨.hbm, 16, rfl⟩
abbrev main_v6 : Ref sig .tc := ⟨.hbm, 17, rfl⟩
abbrev main_v7 : Ref sig .tc := ⟨.hbm, 18, rfl⟩
abbrev main_v8 : Ref sig .tc := ⟨.hbm, 19, rfl⟩
abbrev main_v9 : Ref sig .tc := ⟨.hbm, 20, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_sem0_0 : DmaSem sig := 0
abbrev cc0_sem1_0 : DmaSem sig := 1
abbrev cc0_sem2_0 : DmaSem sig := 2

abbrev nD : Nat := 1
abbrev τ : Topo := Topo.v7x

variable {F : FTy → Type} [FloatOps F]

abbrev grid0 : Pipeline.Grid := .none

abbrev stage0_0 : Fin 1 → Memref sig .tc .vmem S4096x8192 .fp8e4m3 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S1x1 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S4096x8192 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
-- ==== Proof.Base.lean ====
/-
The kernel's memrefs, semaphores and contents: what each window of each buffer is called here, the devices a
device talks to, and the values that travel between them.
-/
module

public import proofs.«01_k».proof.Proof.Gen.KernelIdeal
public import proofs.«01_k».proof.Proof.Gen.KernelIdeal.Skeleton
public import proofs.«01_k».proof.Proof.Gen.KernelIdeal.Launch
public import Idealize.ShloMosaic.Lib.Pipeline.Launch
public import Idealize.ShloMosaic.Lib.Pipeline.Kit
public import Idealize.ShloMosaic.Lib.Tactic
public import Idealize.ShloMosaic.Lib.VecWindow
public import Idealize.ShloMosaic.Lib.Pipeline.Value

@[expose] public section

set_option maxRecDepth 16384

noncomputable section

namespace Cert.MeshProof

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

/-! ## The resource algebra -/

/-- The rounds of the cells the devices share; duties are named by a `Bool`. -/
abbrev UB : Type := URounds (GSem nD τ sig) Bool
/-- The pipeline library's copy, the shared cells', and the counters of the local transfers. -/
abbrev UU : Type := UR sig nD τ × (UB × Counters)

local notation "𝕄" => MT nD τ sig Bool (Elt F) ℕ UU ℕ

abbrev EP : Emb (UR sig nD τ) (MT nD τ sig Bool (Elt F) ℕ UU ℕ) := embL
abbrev ER : Emb UB (MT nD τ sig Bool (Elt F) ℕ UU ℕ) :=
  (Emb.inl : Emb UB (UB × Counters)).trans embR

/-! ## The devices a device talks to -/

set_option backward.proofsInPublic true in
/-- The device to the right on the ring; -/
def nxt (c : Dev nD) : Dev nD := ⟨(c.val + 1) % 4, Nat.mod_lt _ (by decide)⟩
set_option backward.proofsInPublic true in
/-- the device to the left. -/
def prv (c : Dev nD) : Dev nD := ⟨(c.val + 3) % 4, Nat.mod_lt _ (by decide)⟩

theorem prv_nxt (c : Dev nD) : prv (nxt c) = c := by revert c; decide
theorem nxt_prv (c : Dev nD) : nxt (prv c) = c := by revert c; decide
theorem prv_prv (c : Dev nD) : prv (prv c) = nxt (nxt c) := by revert c; decide
theorem prv_nn (c : Dev nD) : prv (nxt (nxt c)) = nxt c := by revert c; decide
theorem nnn (c : Dev nD) : nxt (nxt (nxt c)) = prv c := by revert c; decide
theorem nn_nn (c : Dev nD) : nxt (nxt (nxt (nxt c))) = c := by revert c; decide

theorem dev1_eq (c : Dev nD) : (⟨k0_dev1 c, k0_dev1_lt c⟩ : Dev nD) = prv c := by revert c; decide
theorem dev2_eq (c : Dev nD) : (⟨k0_dev2 c, k0_dev2_lt c⟩ : Dev nD) = nxt c := by revert c; decide
theorem dev3_eq (c : Dev nD) : (⟨k0_dev3 c, k0_dev3_lt c⟩ : Dev nD) = nxt c := by revert c; decide
theorem dev4_eq (c : Dev nD) : (⟨k0_dev4 c, k0_dev4_lt c⟩ : Dev nD) = prv c := by revert c; decide
theorem dev5_eq (c : Dev nD) : (⟨k0_dev5 c, k0_dev5_lt c⟩ : Dev nD) = nxt c := by revert c; decide
theorem dev6_eq (c : Dev nD) : (⟨k0_dev6 c, k0_dev6_lt c⟩ : Dev nD) = prv c := by revert c; decide
theorem dev7_eq (c : Dev nD) : (⟨k0_dev7 c, k0_dev7_lt c⟩ : Dev nD) = nxt c := by revert c; decide
theorem dev8_eq (c : Dev nD) : (⟨k0_dev8 c, k0_dev8_lt c⟩ : Dev nD) = prv c := by revert c; decide
theorem dev9_eq (c : Dev nD) : (⟨k0_dev9 c, k0_dev9_lt c⟩ : Dev nD) = nxt c := by revert c; decide
theorem dev10_eq (c : Dev nD) : (⟨k0_dev10 c, k0_dev10_lt c⟩ : Dev nD) = nxt (nxt c) := by revert c; decide
theorem dev11_eq (c : Dev nD) : (⟨k0_dev11 c, k0_dev11_lt c⟩ : Dev nD) = prv c := by revert c; decide

/-- Both directions of the ring, as a permutation. -/
def ring : Dev nD ≃ Dev nD := ⟨nxt, prv, prv_nxt, nxt_prv⟩

/-! ## The memrefs -/

abbrev aM : Memref sig .tc .hbm S1024x4096 .f32 := Memref.whole main_arg0
abbrev bM : Memref sig .tc .hbm S4096x2048 .f32 := Memref.whole main_arg1
abbrev oM : Memref sig .tc .hbm S4096x2048 .bf16 := Memref.whole main_v1_0
abbrev cM : Memref sig .tc .hbm S3x1024x4096 .bf16 := Memref.whole main_v1_1
abbrev xM : Memref sig .tc .vmem S1024x4096 .bf16 := Memref.whole cc0_scratch0
abbrev wM : Memref sig .tc .vmem S4096x2048 .bf16 := Memref.whole cc0_scratch1
abbrev sM : Memref sig .tc .vmem S2x512x4096 .bf16 := Memref.whole cc0_scratch2
abbrev f0M : Memref sig .tc .vmem S512x2048 .f32 := Memref.whole cc0_scratch3
abbrev f1M : Memref sig .tc .vmem S512x2048 .f32 := Memref.whole cc0_scratch4
abbrev yM : Memref sig .tc .vmem S3x512x2048 .bf16 := Memref.whole cc0_scratch5
abbrev mM : Memref sig .tc .vmem S4x8x128 .f32 := Memref.whole cc0_scratch9

/-- The two row halves of the device's own rows of `x`; -/
abbrev x0 : Memref sig .tc .vmem S512x4096 .bf16 := xM.slice (Rect.unit (s := S1024x4096) ![0, 0] S512x4096.size inb_S1024x4096_S512x4096_0_0) (fun _ => rfl)
abbrev x1 : Memref sig .tc .vmem S512x4096 .bf16 := xM.slice (Rect.unit (s := S1024x4096) ![512, 0] S512x4096.size inb_S1024x4096_S512x4096_512_0) (fun _ => rfl)

/-- the six half-slots of the landing buffer: slot 0 takes the left neighbour's rows, slot 1 the right one's, slot 2
    the opposite device's; -/
abbrev c00 : Memref sig .tc .hbm S512x4096 .bf16 := (cM.slice (Rect.unit (s := S3x1024x4096) ![0, 0, 0] S1x512x4096.size inb_S3x1024x4096_S1x512x4096_0_0_0) (fun _ => rfl)).squeeze S512x4096 squeezes_S1x512x4096_S512x4096
abbrev c01 : Memref sig .tc .hbm S512x4096 .bf16 := (cM.slice (Rect.unit (s := S3x1024x4096) ![0, 512, 0] S1x512x4096.size inb_S3x1024x4096_S1x512x4096_0_512_0) (fun _ => rfl)).squeeze S512x4096 squeezes_S1x512x4096_S512x4096
abbrev c10 : Memref sig .tc .hbm S512x4096 .bf16 := (cM.slice (Rect.unit (s := S3x1024x4096) ![1, 0, 0] S1x512x4096.size inb_S3x1024x4096_S1x512x4096_1_0_0) (fun _ => rfl)).squeeze S512x4096 squeezes_S1x512x4096_S512x4096
abbrev c11 : Memref sig .tc .hbm S512x4096 .bf16 := (cM.slice (Rect.unit (s := S3x1024x4096) ![1, 512, 0] S1x512x4096.size inb_S3x1024x4096_S1x512x4096_1_512_0) (fun _ => rfl)).squeeze S512x4096 squeezes_S1x512x4096_S512x4096
abbrev c20 : Memref sig .tc .hbm S512x4096 .bf16 := (cM.slice (Rect.unit (s := S3x1024x4096) ![2, 0, 0] S1x512x4096.size inb_S3x1024x4096_S1x512x4096_2_0_0) (fun _ => rfl)).squeeze S512x4096 squeezes_S1x512x4096_S512x4096
abbrev c21 : Memref sig .tc .hbm S512x4096 .bf16 := (cM.slice (Rect.unit (s := S3x1024x4096) ![2, 512, 0] S1x512x4096.size inb_S3x1024x4096_S1x512x4096_2_512_0) (fun _ => rfl)).squeeze S512x4096 squeezes_S1x512x4096_S512x4096

/-- the two slots that the landed rows are staged in; -/
abbrev s0 : Memref sig .tc .vmem S512x4096 .bf16 := (sM.slice (Rect.unit (s := S2x512x4096) ![0, 0, 0] S1x512x4096.size inb_S2x512x4096_S1x512x4096_0_0_0) (fun _ => rfl)).squeeze S512x4096 squeezes_S1x512x4096_S512x4096
abbrev s1 : Memref sig .tc .vmem S512x4096 .bf16 := (sM.slice (Rect.unit (s := S2x512x4096) ![1, 0, 0] S1x512x4096.size inb_S2x512x4096_S1x512x4096_1_0_0) (fun _ => rfl)).squeeze S512x4096 squeezes_S1x512x4096_S512x4096

/-- the three slots of the staged result; -/
abbrev y0 : Memref sig .tc .vmem S512x2048 .bf16 := (yM.slice (Rect.unit (s := S3x512x2048) ![0, 0, 0] S1x512x2048.size inb_S3x512x2048_S1x512x2048_0_0_0) (fun _ => rfl)).squeeze S512x2048 squeezes_S1x512x2048_S512x2048
abbrev y1 : Memref sig .tc .vmem S512x2048 .bf16 := (yM.slice (Rect.unit (s := S3x512x2048) ![1, 0, 0] S1x512x2048.size inb_S3x512x2048_S1x512x2048_1_0_0) (fun _ => rfl)).squeeze S512x2048 squeezes_S1x512x2048_S512x2048
abbrev y2 : Memref sig .tc .vmem S512x2048 .bf16 := (yM.slice (Rect.unit (s := S3x512x2048) ![2, 0, 0] S1x512x2048.size inb_S3x512x2048_S1x512x2048_2_0_0) (fun _ => rfl)).squeeze S512x2048 squeezes_S1x512x2048_S512x2048

/-- the four slots of the maxima: slot `d` is of the device `d` places to the left; -/
abbrev m0 : Memref sig .tc .vmem S8x128 .f32 := (mM.slice (Rect.unit (s := S4x8x128) ![0, 0, 0] S1x8x128.size inb_S4x8x128_S1x8x128_0_0_0) (fun _ => rfl)).squeeze S8x128 squeezes_S1x8x128_S8x128
abbrev m1 : Memref sig .tc .vmem S8x128 .f32 := (mM.slice (Rect.unit (s := S4x8x128) ![1, 0, 0] S1x8x128.size inb_S4x8x128_S1x8x128_1_0_0) (fun _ => rfl)).squeeze S8x128 squeezes_S1x8x128_S8x128
abbrev m2 : Memref sig .tc .vmem S8x128 .f32 := (mM.slice (Rect.unit (s := S4x8x128) ![2, 0, 0] S1x8x128.size inb_S4x8x128_S1x8x128_2_0_0) (fun _ => rfl)).squeeze S8x128 squeezes_S1x8x128_S8x128
abbrev m3 : Memref sig .tc .vmem S8x128 .f32 := (mM.slice (Rect.unit (s := S4x8x128) ![3, 0, 0] S1x8x128.size inb_S4x8x128_S1x8x128_3_0_0) (fun _ => rfl)).squeeze S8x128 squeezes_S1x8x128_S8x128

/-- a block of 512 rows of the result, at any offset. -/
abbrev blk (o : Fin 2 → ℕ) (h : ∀ a, o a + S512x2048.size a ≤ S4096x2048.size a) : Memref sig .tc .hbm S512x2048 .bf16 :=
  oM.slice (Rect.unit (s := S4096x2048) o S512x2048.size h) (fun _ => rfl)

/-! ## What a window holds -/

/-- Device `c` holds share `q` of the window `M`, whose contents read `v`; -/
abbrev holds {sp : Space} {s : Shape} {e : EltTy} (M : Memref sig .tc sp s e) (c : Dev nD) (q : PosShare TreeShare) (v : s.Idx → Elt F e) : sProp 𝕄 :=
  M.view.loc (c : Thread nD τ) ↦[M.view.set]{q} M.view.rep v

/-- the whole window at contents it does not say. -/
def anyAt {sp : Space} {s : Shape} {e : EltTy} (M : Memref sig .tc sp s e) (c : Dev nD) : sProp 𝕄 :=
  iprop(∃ f : Buf (Elt F) (M.view.loc (c : Thread nD τ)), M.view.loc (c : Thread nD τ) ↦[M.view.set]{fullShare} f)

instance anyAt_storable {sp : Space} {s : Shape} {e : EltTy} (M : Memref sig .tc sp s e) (c : Dev nD) :
    BI.Storable (upEmb : UEmb _ 𝕄) (anyAt (F := F) M c) := by unfold anyAt; infer_instance

/-- Any holding of a window is the holding of what it reads; -/
theorem to_holds {sp : Space} {s : Shape} {e : EltTy} (M : Memref sig .tc sp s e) (c : Dev nD) (q : PosShare TreeShare)
    (g : Buf (Elt F) (M.view.loc (c : Thread nD τ))) (v : s.Idx → Elt F e) (h : M.view.read (Elt F) g = v) :
    (M.view.loc (c : Thread nD τ) ↦[M.view.set]{q} g : sProp 𝕄) ⊢ holds M c q v := by
  subst h; exact pointsTo_rep_entails (c : Thread nD τ) M g q

/-- a full one may be forgotten; -/
theorem to_any {sp : Space} {s : Shape} {e : EltTy} (M : Memref sig .tc sp s e) (c : Dev nD)
    (g : Buf (Elt F) (M.view.loc (c : Thread nD τ))) :
    (M.view.loc (c : Thread nD τ) ↦[M.view.set]{fullShare} g : sProp 𝕄) ⊢ anyAt M c := by
  unfold anyAt; iintro H; iexists g; iexact H

/-- shares of one window split and join. -/
theorem holds_halves {sp : Space} {s : Shape} {e : EltTy} (M : Memref sig .tc sp s e) (c : Dev nD) (q : PosShare TreeShare) (v : s.Idx → Elt F e) :
    (holds M c q v : sProp 𝕄) ⊣⊢ iprop(holds M c q.left v ∗ holds M c q.right v) :=
  pointsTo_share (PosShare.mem_left_op_right q)

/-! ## The contents -/

variable (m : (ℓ : Loc nD τ sig) → Buf (Elt F) ℓ)

/-- Device `c`'s rows of `x`, rounded to bfloat16; -/
def xbf (c : Dev nD) : S1024x4096.Idx → Elt F .bf16 := truncf .bf16 (m ((c : Thread nD τ).loc main_arg0) : FVec F S1024x4096 .f32) bitsLt_bf16_f32
/-- its two halves; -/
def xh (c : Dev nD) (h : Fin 2) : S512x4096.Idx → Elt F .bf16 :=
  if h = 0 then x0.view.read (Elt F) (xbf m c) else x1.view.read (Elt F) (xbf m c)
/-- device `c`'s columns of `w`, rounded likewise; -/
def wbf (c : Dev nD) : S4096x2048.Idx → Elt F .bf16 := truncf .bf16 (m ((c : Thread nD τ).loc main_arg1) : FVec F S4096x2048 .f32) bitsLt_bf16_f32
/-- the half `h` of device `d`'s rows of the product, device `c`'s columns, rounded to bfloat16; -/
def yb (c d : Dev nD) (h : Fin 2) : S512x2048.Idx → Elt F .bf16 := truncf .bf16 (k0_pay14 (xh m d h) (wbf m c)) bitsLt_bf16_f32

/-- a half's rows with the unit axis the staging slot has in front; -/
abbrev up (v : S512x4096.Idx → Elt F .bf16) : Vec F S1x512x4096 .bf16 := shapeCast S1x512x4096 v squeezes_S1x512x4096_S512x4096.numel_eq.symm

/-- the running maximum of `|y|` over device `c`'s eight blocks, in the order the kernel computes them; -/
def mx1 (c : Dev nD) : F .f32 := k0_pay17 (xh m c 0) (wbf m c) (xh m c 1) (wbf m c)
def mx2 (c : Dev nD) : F .f32 := k0_pay21 (mx1 m c) (up (xh m (prv c) 0)) (wbf m c)
def mx3 (c : Dev nD) : F .f32 := k0_pay24 (mx2 m c) (up (xh m (nxt c) 0)) (wbf m c)
def mx4 (c : Dev nD) : F .f32 := k0_pay27 (mx3 m c) (up (xh m (prv c) 1)) (wbf m c)
def mx5 (c : Dev nD) : F .f32 := k0_pay30 (mx4 m c) (up (xh m (nxt c) 1)) (wbf m c)
def mx6 (c : Dev nD) : F .f32 := k0_pay33 (mx5 m c) (up (xh m (nxt (nxt c)) 0)) (wbf m c)
def mx7 (c : Dev nD) : F .f32 := k0_pay37 (mx6 m c) (up (xh m (nxt (nxt c)) 1)) (wbf m c)
/-- as the tile it is sent in; -/
def am (c : Dev nD) : S8x128.Idx → F .f32 := shapeCast S8x128 (k0_pay40 (mx7 m c)) squeezes_S1x8x128_S8x128.numel_eq

end Cert.MeshProof

end
-- ==== Proof.Sched.lean ====
/-
The protocol between the devices: the cells, their duties with the contents each landing hands over, what a device
owes at each stage, and the levels.

Each device has nineteen shared cells, each used for one round. Its barrier cell gets one unit from each neighbour; the
right neighbour's unit hands over that neighbour's landing windows for what this device sends to the right (both halves
of its slot 0, the first half of its slot 2, its maximum slot 1), the left neighbour's unit those for what this device
sends to the left (slot 1, the second half of slot 2, maximum slot 3). A send cell gets back the share of the source
that the copy reads; a receive cell gets the landed window. The maximum slot 2 of a device belongs to the opposite
device's copy, and travels there with the two copies to the right on first halves.
-/
module

public import proofs.«01_k».proof.Proof.Base

@[expose] public section

set_option maxRecDepth 16384

noncomputable section

namespace Cert.MeshProof

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Bool (Elt F) ℕ UU ℕ

/-! ## The cells -/

/-- The runtime's barrier semaphore of the kernel's collective id. -/
abbrev barS : Sem sig := (SemArray.scalar (sig.barrier 0 rfl) : Sems sig S_).sem

set_option backward.proofsInPublic true in
/-- The shared semaphores of a device: the barrier; six sends and six receives of rows; three and three of maxima. -/
def csem (k : Fin 19) : SemLoc sig :=
  if k.val = 0 then .reg barS
  else if k.val < 13 then .dma (⟨k.val - 1, by have := k.isLt; show k.val - 1 < 26; omega⟩ : Fin 26)
  else .dma (⟨k.val + 7, by have := k.isLt; show k.val + 7 < 26; omega⟩ : Fin 26)

abbrev kcell (ck : Dev nD × Fin 19) : GSem nD τ sig := ((ck.1 : Thread nD τ), csem ck.2)

/-- The number of a shared semaphore; -/
def slot : SemLoc sig → Option ℕ
  | .reg _ => some 0
  | .dma (n : Fin 26) => if n.val < 12 then some (n.val + 1) else if n.val < 20 then none else some (n.val - 7)

theorem slot_csem : ∀ k : Fin 19, slot (csem k) = some k.val := by decide

theorem csem_injective : Function.Injective csem := fun a b h => by
  have := (slot_csem a).symm.trans ((congrArg slot h).trans (slot_csem b))
  exact Fin.ext (Option.some.inj this)

theorem kcell_injective : Function.Injective kcell := fun a b h => by
  have h1 : a.1 = b.1 := by have := congrArg (fun g => g.1.1) h; exact this
  have h2 : a.2 = b.2 := csem_injective (congrArg Prod.snd h)
  exact Prod.ext h1 h2

/-- the credit of a copy of 512 rows, and of a tile of maxima. -/
abbrev N : ℕ := c00.view.dmaCredit
abbrev NA : ℕ := m0.view.dmaCredit
theorem N_pos : 0 < N := View.dmaCredit_pos _ (by decide)
theorem NA_pos : 0 < NA := View.dmaCredit_pos _ (by decide)

/-! ## The schedule -/

variable (m : (ℓ : Loc nD τ sig) → Buf (Elt F) ℓ)

/-- What each landing hands device `c`. -/
def pay (c : Dev nD) (d : Bool) : ℕ → sProp 𝕄
  | 0 => if d then iprop(anyAt c00 (nxt c) ∗ anyAt c01 (nxt c) ∗ anyAt c20 (nxt c) ∗ anyAt m1 (nxt c))
      else iprop(anyAt c10 (prv c) ∗ anyAt c11 (prv c) ∗ anyAt c21 (prv c) ∗ anyAt m3 (prv c))
  | 1 => holds x0 c fullShare.right.left (xh m c 0)
  | 2 => holds x1 c fullShare.right.left (xh m c 1)
  | 3 => holds x0 c fullShare.right.right (xh m c 0)
  | 4 => holds x1 c fullShare.right.right (xh m c 1)
  | 5 => holds c00 c fullShare.right (xh m (prv c) 0)
  | 6 => holds c11 c fullShare.right (xh m (nxt c) 1)
  | 7 => iprop(holds c00 c fullShare (xh m (prv c) 0) ∗ anyAt m2 (prv c))
  | 8 => holds c01 c fullShare (xh m (prv c) 1)
  | 9 => holds c10 c fullShare (xh m (nxt c) 0)
  | 10 => holds c11 c fullShare (xh m (nxt c) 1)
  | 11 => iprop(holds c20 c fullShare (xh m (nxt (nxt c)) 0) ∗ anyAt m2 (nxt (nxt c)))
  | 12 => holds c21 c fullShare (xh m (nxt (nxt c)) 1)
  | 13 => holds m0 c fullShare.left (am m c)
  | 14 => holds m0 c fullShare.right.left (am m c)
  | 15 => holds m0 c fullShare.right.right (am m c)
  | 16 => holds m1 c fullShare (am m (prv c))
  | 17 => holds m2 c fullShare (am m (nxt (nxt c)))
  | 18 => holds m3 c fullShare (am m (nxt c))
  | _ => iprop(emp)

instance pay_storable (c : Dev nD) (d : Bool) (k : ℕ) : BI.Storable (upEmb : UEmb _ 𝕄) (pay (F := F) m c d k) := by
  unfold pay; (repeat' split) <;> infer_instance

/-- The units of one duty of a cell. -/
def amt (k : ℕ) : ℕ := if k = 0 then 1 else if k < 13 then N else NA
theorem amt_pos (k : ℕ) : 0 < amt k := by
  unfold amt; split
  · exact Nat.one_pos
  · split
    · exact N_pos
    · exact NA_pos

def Rd : Rounds.Schedule (GSem nD τ sig) Bool 𝕄 where
  duties g r := if r = 0 then (match slot g.2 with | some k => if k = 0 then Finset.univ else {false} | none => ∅) else ∅
  unitless _ := False
  amount g _ _ := match slot g.2 with | some k => amt k | none => 1
  payload g _ d := match slot g.2 with | some k => pay m g.1.1 d k | none => iprop(emp)
  amount_pos g _ _ _ := by split; exacts [amt_pos _, Nat.one_pos]

instance Rd_payload_storable (g : GSem nD τ sig) (r : ℕ) (d : Bool) :
    BI.Storable (upEmb : UEmb _ 𝕄) ((Rd (F := F) m).payload g r d) := by
  show BI.Storable upEmb (match slot g.2 with | some k => pay m g.1.1 d k | none => iprop(emp))
  split <;> infer_instance

section Tables
variable (c : Dev nD) (k : Fin 19)

theorem duties_bar : (Rd (F := F) m).duties (kcell (c, 0)) 0 = Finset.univ := by
  show (if 0 = 0 then (match slot (csem 0) with | some k => if k = 0 then Finset.univ else {false} | none => ∅) else ∅) = Finset.univ
  rw [slot_csem]; rfl
theorem duties_one (hk : k ≠ 0) : (Rd (F := F) m).duties (kcell (c, k)) 0 = {false} := by
  show (if 0 = 0 then (match slot (csem k) with | some k => if k = 0 then Finset.univ else {false} | none => ∅) else ∅) = {false}
  rw [slot_csem, if_pos rfl]
  exact if_neg fun h => hk (Fin.ext h)
theorem duties_later (g : GSem nD τ sig) : ∀ r, 1 ≤ r → (Rd (F := F) m).duties g r = ∅ :=
  fun r hr => if_neg (by omega)
theorem amount_eq (d : Bool) : (Rd (F := F) m).amount (kcell (c, k)) 0 d = amt k.val := by
  show (match slot (csem k) with | some k => amt k | none => 1) = amt k.val
  rw [slot_csem]
theorem payload_eq (d : Bool) : (Rd (F := F) m).payload (kcell (c, k)) 0 d = pay m c d k.val := by
  show (match slot (csem k) with | some k => pay m c d k | none => iprop(emp)) = pay m c d k.val
  rw [slot_csem]
theorem expect_bar : (Rd (F := F) m).expect (kcell (c, 0)) 0 = 2 := by
  unfold Schedule.expect Schedule.amountOf
  rw [duties_bar, Finset.sum_congr rfl fun d _ => amount_eq m c 0 d, Finset.sum_const, Finset.card_univ, Fintype.card_bool]; rfl
theorem expect_one (hk : k ≠ 0) : (Rd (F := F) m).expect (kcell (c, k)) 0 = amt k.val := by
  unfold Schedule.expect Schedule.amountOf; rw [duties_one m c k hk, Finset.sum_singleton, amount_eq]
theorem rest_bar : bigSep ((Rd (F := F) m).duties (kcell (c, 0)) 0 \ ∅) (fun d => (Rd (F := F) m).payload (kcell (c, 0)) 0 d)
    = iprop(pay m c false 0 ∗ pay m c true 0) := by
  rw [Finset.sdiff_empty, duties_bar, bigSep_univ_eq_bigSepL [false, true] (by decide) (by decide), bigSepL_cons_cons, bigSepL_singleton,
    payload_eq, payload_eq]
  rfl
theorem rest_one (hk : k ≠ 0) : bigSep ((Rd (F := F) m).duties (kcell (c, k)) 0 \ ∅) (fun d => (Rd (F := F) m).payload (kcell (c, k)) 0 d)
    = pay m c false k.val := by
  rw [Finset.sdiff_empty, duties_one m c k hk, bigSep_singleton, payload_eq]

end Tables

/-! ## What a device owes, and the levels -/

/-- The cells a device pays at other devices, the last one first. -/
def debt (c : Dev nD) : ℕ → Dev nD × Fin 19
  | 0 => (prv c, 18)
  | 1 => (nxt (nxt c), 17)
  | 2 => (nxt c, 16)
  | 3 => (prv c, 12)
  | 4 => (nxt c, 11)
  | 5 => (prv c, 10)
  | 6 => (nxt c, 8)
  | 7 => (prv c, 9)
  | 8 => (nxt c, 7)
  | 9 => (nxt c, 0)
  | _ => (prv c, 0)

/-- The debts once all but the last `n` are paid. Copies between devices are accounted at the index `true`, a
    device's own transfers at `false`. -/
def owed (c : Dev nD) : ℕ → CellTallies nD τ sig Bool
  | 0 => 0
  | n + 1 => owed c n + tallyAt (kcell (debt c n)) true (amt (debt c n).2.val)

def L (g : GSem nD τ sig) : Finset Bool := if g.1.2 = .tc then Finset.univ else ∅
/-- The level of a shared cell. -/
def rank (k : ℕ) : ℕ := if k = 0 then 1 else if k < 7 then 0 else if k < 11 then 2 else if k < 13 then 3 else if k < 16 then 0 else 4
def lv (g : GSem nD τ sig) (ι : Bool) : ℕ := if ι then (match slot g.2 with | some k => rank k | none => 0) else 0

theorem lv_kcell (p : Dev nD × Fin 19) : lv (kcell p) true = rank p.2.val := by
  show (if true then (match slot (csem p.2) with | some k => rank k | none => 0) else 0) = _
  rw [if_pos rfl, slot_csem]
theorem L_of_ne (g : GSem nD τ sig) (h : g.1.2 ≠ .tc) : L g = ∅ := if_neg h
theorem L_tc (c : Dev nD) (sm : SemLoc sig) : L ((c : Thread nD τ), sm) = Finset.univ := if_pos rfl

theorem owed_pos {c : Dev nD} {n : ℕ} {g : GSem nD τ sig} {u : Bool} (h : 0 < owed c n g u) : ∃ j < n, g = kcell (debt c j) ∧ u = true := by
  induction n with
  | zero => exact absurd h (Nat.lt_irrefl 0)
  | succ n ih =>
    unfold owed at h
    rw [Pi.add_apply, Finsupp.add_apply, tallyAt_apply] at h
    by_cases hg : g = kcell (debt c n) ∧ u = true
    · exact ⟨n, Nat.lt_succ_self n, hg⟩
    · rw [if_neg hg] at h
      obtain ⟨j, hj, h'⟩ := ih h
      exact ⟨j, hj.trans (Nat.lt_succ_self n), h'⟩

/-- The least level among the last `n` debts is above `l`. -/
def above (l n : ℕ) : Prop := ∀ j < n, ∀ c : Dev nD, l < rank (debt c j).2.val

theorem mayWait_at {c : Dev nD} (sm : SemLoc sig) (ι : Bool) (n l : ℕ) (hl : lv ((c : Thread nD τ), sm) ι ≤ l) (h : above l n) :
    (levAts L lv : sProp 𝕄) ⊢ MayWait (c : Thread nD τ) sm ι (owed c n) :=
  MayOwe.of_cut (L := L) (lev := lv) l (fun p hp => by rw [Finset.mem_singleton.mp hp, L_tc]; exact Finset.mem_univ _)
    (fun g u hg => by obtain ⟨j, hj, rfl, rfl⟩ := owed_pos hg; rw [L_tc]; exact Finset.mem_univ _)
    (fun p hp => by rw [Finset.mem_singleton.mp hp]; exact hl)
    (fun g u hg => by obtain ⟨j, hj, rfl, rfl⟩ := owed_pos hg; rw [lv_kcell]; exact h j hj c)

theorem above_of (l n : ℕ) (hn : n ≤ 11) (h : ∀ j : Fin 11, j.val < n → ∀ c : Dev nD, l < rank (debt c j.val).2.val) : above l n :=
  fun j hj c => h ⟨j, by omega⟩ hj c

/-- A device may wait for its own transfers whatever it still owes. -/
theorem mayWaits_own (c : Dev nD) (n : ℕ) (hn : n ≤ 11) : (levAts L lv : sProp 𝕄) ⊢ Transfers.MayWaits (c : Thread nD τ) false (owed c n) :=
  Transfers.MayWaits.intro fun sm => mayWait_at sm false n 0 (le_refl 0) (above_of 0 n hn (by decide +revert))

end Cert.MeshProof

end
-- ==== Proof.Steps.lean ====
/-
The rules of the shared cells, each at this protocol: a barrier signal, a wait for a cell's round, a copy to another
device, and the closing of a cell.
-/
module

public import proofs.«01_k».proof.Proof.Sched

@[expose] public section

set_option maxRecDepth 16384

noncomputable section

namespace Cert.MeshProof

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Bool (Elt F) ℕ UU ℕ

abbrev 𝒱₀ : Variants := Variants.none

variable (m : (ℓ : Loc nD τ sig) → Buf (Elt F) ℓ)

/-- Every cell's invariant and that its round is open; the levels. -/
def env (K : Dev nD × Fin 19 → ℕ) : sProp 𝕄 :=
  iprop((∀ p : Dev nD × Fin 19, cellInv ER (Rd m) (K p) (kcell p) ∗ reached ER (kcell p) 0) ∗ levAts L lv)

instance env_persistent (K : Dev nD × Fin 19 → ℕ) : BI.Persistent (env (F := F) m K) := by unfold env; infer_instance

/-- Device `c` owes its last `n` debts. -/
def owe (c : Dev nD) (n : ℕ) : sProp 𝕄 := iprop(∃ W : Waits sig Bool, owes (c : Thread nD τ) (owed c n) W)

/-- Cell `k` of device `c` before its wait, and after. -/
abbrev todo (c : Dev nD) (k : Fin 19) : sProp 𝕄 := atPos ER (kcell (c, k)) 0 ∅ 0
abbrev done (c : Dev nD) (k : Fin 19) : sProp 𝕄 := atPos ER (kcell (c, k)) (0 + 1) ∅ 0
/-- The right to pay duty `d` of cell `k` of device `c`; the credit of a cell. -/
abbrev tok (c : Dev nD) (k : Fin 19) (d : Bool) : sProp 𝕄 := dutyTok ER (kcell (c, k)) 0 d
abbrev credit (c : Dev nD) (k : Fin 19) (n : ℕ) : sProp 𝕄 := cred (tallyAt (kcell (c, k)) true n)

theorem env_inv (K : Dev nD × Fin 19 → ℕ) (p : Dev nD × Fin 19) : (env (F := F) m K : sProp 𝕄) ⊢ cellInv ER (Rd m) (K p) (kcell p) := by
  unfold env; iintro ⟨H, -⟩; ispecialize H $$ %p; icases H with ⟨H, -⟩; iexact H
theorem env_reached (K : Dev nD × Fin 19 → ℕ) (p : Dev nD × Fin 19) : (env (F := F) m K : sProp 𝕄) ⊢ reached ER (kcell p) 0 := by
  unfold env; iintro ⟨H, -⟩; ispecialize H $$ %p; icases H with ⟨-, H⟩; iexact H
theorem env_lev (K : Dev nD × Fin 19 → ℕ) : (env (F := F) m K : sProp 𝕄) ⊢ levAts L lv := by
  unfold env; iintro ⟨-, H⟩; iexact H

section Rules
variable (K : Dev nD × Fin 19 → ℕ) (c : Dev nD)

/-- A signal to a neighbour's barrier cell, with what it hands over. -/
theorem wp_bar {α : Type} {Q : α → sProp 𝕄} {k : PUnit → Prog (TpuEff nD τ sig (Elt F) Λ₀ .tc) α} (n : ℕ) {t t' : Dev nD} (ht : t' = t) (d : Bool) (hn : debt c n = (t, 0)) :
    iprop(env m K ∗ owe c (n + 1) ∗ tok t 0 d ∗ pay m t d 0)
      ⊢ iprop((owe c n -∗ wp frame (wpE (defs₀ (F := F)) 𝒱₀ (c : Thread nD τ) none) Set.univ (k ⟨⟩) Q)
          -∗ wp frame (wpE (defs₀ (F := F)) 𝒱₀ (c : Thread nD τ) none) Set.univ
              (.op (.semSignal (Dev.tc t' : Thread nD τ) barS 1) k) Q) := by
  subst ht
  unfold owe
  iintro ⟨#HE, ⟨%W, HO⟩, Htok, Hpay⟩ Hk
  iapply (Rounds.wp_signal 𝒱₀ ER (Rd m) (c : Thread nD τ) none (dst := (t' : Thread nD τ)) (sem := barS) (κ := K (t', 0))
      (d := d) (r := 0) (by show d ∈ (Rd m).duties (kcell (t', 0)) 0; rw [duties_bar]; exact Finset.mem_univ _)
      (show (Rd m).amount (kcell (t', 0)) 0 d = 1 from amount_eq m t' 0 d) true (O₀ := owed c (n + 1)) (owed c n)
      (by show owed c n + tallyAt (kcell (debt c n)) true (amt (debt c n).2.val) = _; rw [hn]; rfl) (W := W)) $$ [HO Htok Hpay]
  · isplitr; · iapply (env_inv m K (t', 0)); iexact HE
    isplitl [HO]; · iexact HO
    isplitl [Htok]; · iexact Htok
    isplitl [Hpay]; · iapply (show (pay m t' d 0 : sProp 𝕄) ⊢ (Rd m).payload ((t' : Thread nD τ), SemLoc.reg barS) 0 d from Entails.of_eq (payload_eq m t' 0 d).symm); iexact Hpay
    iapply (env_reached m K (t', 0)); iexact HE
  iintro HO
  iapply Hk
  iexists W; iexact HO

/-- The wait for both neighbours' signals. -/
theorem wp_wait_bar {α : Type} {Q : α → sProp 𝕄} {k : PUnit → Prog (TpuEff nD τ sig (Elt F) Λ₀ .tc) α} (n : ℕ) (hl : above 1 n) :
    iprop(env m K ∗ owe c n ∗ credit c 0 2 ∗ todo c 0)
      ⊢ iprop(((owe c n ∗ done c 0 ∗ pay m c false 0 ∗ pay m c true 0) -∗ wp frame (wpE (defs₀ (F := F)) 𝒱₀ (c : Thread nD τ) none) Set.univ (k ⟨⟩) Q)
          -∗ wp frame (wpE (defs₀ (F := F)) 𝒱₀ (c : Thread nD τ) none) Set.univ (.op (.semWait barS 2) k) Q) := by
  unfold owe
  iintro ⟨#HE, ⟨%W, HO⟩, Hcr, Hat⟩ Hk
  iapply (Rounds.wp_wait_rest_token 𝒱₀ ER (Rd m) (c : Thread nD τ) none (κ := K (c, 0))
      (wpE_semWait_eq 𝒱₀ (c : Thread nD τ) none Set.univ) (Set.mem_univ _) true (O := owed c n) (W := W) (R := 0) (m := 0) (T := ∅)
      (by show 0 + 2 = (Rd m).expect (kcell (c, 0)) 0; rw [expect_bar])) $$ [Hcr HO Hat]
  · isplitr; · iapply (env_inv m K (c, 0)); iexact HE
    isplitl [Hcr]; · iexact Hcr
    isplitl [HO]; · iexact HO
    isplitr
    · iapply (mayWait_at (c := c) (csem 0) true n 1 (by rw [lv_kcell (c, 0)]; exact le_refl _) hl); iapply (env_lev m K); iexact HE
    iexact Hat
  iintro ⟨HO, Hat, -, Hpay⟩
  ihave Hp := (show bigSep ((Rd (F := F) m).duties ((c : Thread nD τ), SemLoc.reg barS) 0 \ ∅) (fun d => (Rd (F := F) m).payload ((c : Thread nD τ), SemLoc.reg barS) 0 d)
      ⊢ iprop(pay m c false 0 ∗ pay m c true 0) from Entails.of_eq (rest_bar m c)) $$ Hpay
  icases Hp with ⟨Hp, Hp'⟩
  iapply Hk
  isplitl [HO]; · iexists _; iexact HO
  isplitl [Hat]; · iexact Hat
  isplitl [Hp] <;> iassumption

/-- The wait for the round of a send or receive cell. -/
theorem wp_wait_cell {α : Type} {Q : α → sProp 𝕄} {k : PUnit → Prog (TpuEff nD τ sig (Elt F) Λ₀ .tc) α} (n : ℕ) (j : Fin 19) (hj : j ≠ 0) (hl : above (rank j.val) n)
    {sp sp' : Space} {s s' : Shape} {e e' : EltTy} {sem : DmaSem sig} {src : Memref sig (Dev.tc c : Thread nD τ).2.kind sp' s' e'} {κ' : Kind} {dst : Memref sig κ' sp s e}
    {hsrc : src.view.WordExact} {hdst : dst.view.WordExact} (hs : SemLoc.dma sem = csem j) (hN : dst.view.dmaCredit = amt j.val) :
    iprop(env m K ∗ owe c n ∗ credit c j (amt j.val) ∗ todo c j)
      ⊢ iprop(((owe c n ∗ done c j ∗ pay m c false j.val) -∗ wp frame (wpE (defs₀ (F := F)) 𝒱₀ (c : Thread nD τ) none) Set.univ (k ⟨⟩) Q)
          -∗ wp frame (wpE (defs₀ (F := F)) 𝒱₀ (c : Thread nD τ) none) Set.univ (.op (.waitDma2 sem src dst hsrc hdst) k) Q) := by
  unfold owe
  iintro ⟨#HE, ⟨%W, HO⟩, Hcr, Hat⟩ Hk
  iapply (Rounds.wp_wait_rest_token 𝒱₀ ER (Rd m) (c : Thread nD τ) none (κ := K (c, j)) (sm := csem j) (k' := amt j.val)
      (fun Kt => (wpE_waitDma2_eq 𝒱₀ (c : Thread nD τ) none Set.univ Kt).trans (by rw [hs, hN])) (Set.mem_univ _) true (O := owed c n) (W := W) (R := 0) (m := 0) (T := ∅)
      (by show 0 + amt j.val = (Rd m).expect (kcell (c, j)) 0; rw [expect_one m c j hj, Nat.zero_add])) $$ [Hcr HO Hat]
  · isplitr; · iapply (env_inv m K (c, j)); iexact HE
    isplitl [Hcr]; · iexact Hcr
    isplitl [HO]; · iexact HO
    isplitr
    · iapply (mayWait_at (c := c) (csem j) true n (rank j.val) (by rw [lv_kcell (c, j)]) hl); iapply (env_lev m K); iexact HE
    iexact Hat
  iintro ⟨HO, Hat, -, Hpay⟩
  ihave Hp := (Entails.of_eq (rest_one m c j hj)) $$ Hpay
  iapply Hk
  isplitl [HO]; · iexists _; iexact HO
  isplitl [Hat]; · iexact Hat
  iexact Hp

/-- A copy to another device: send cell `jS` here, receive cell `jR` there; `X` goes with the landing. -/
theorem wp_copy {α : Type} {Q : α → sProp 𝕄} {k : PUnit → Prog (TpuEff nD τ sig (Elt F) Λ₀ .tc) α} (n : ℕ) {t t' : Dev nD} (ht : t' = t) (jS jR : Fin 19) (hjS : jS ≠ 0) (hjR : jR ≠ 0) (hn : debt c n = (t, jR)) (hA : amt jS.val = amt jR.val)
    {sp sp' : Space} {s : Shape} {e : EltTy} {src : Memref sig (Dev.tc c : Thread nD τ).2.kind sp s e} {dst : Memref sig (Dev.tc t' : Thread nD τ).2.kind sp' s e} {hsc : dst.view.ref.isScScratch = false} {sS sem : DmaSem sig}
    {hsrc : src.view.WordExact} {hdst : dst.view.WordExact} {hsem : DmaTarget.Typed sp (.dma sem) (.remote (Dev.tc t' : Thread nD τ) dst (.dma sS) hsc)}
    (hsS : SemLoc.dma sS = csem jS) (hsR : SemLoc.dma sem = csem jR) (hN : dst.view.dmaCredit = amt jR.val)
    (q : PosShare TreeShare) (v : s.Idx → Elt F e) (X : sProp 𝕄)
    (hp₁ : holds (F := F) src c q v ⊢ pay m c false jS.val) (hp₂ : iprop(holds (F := F) dst t fullShare v ∗ X) ⊢ pay m t false jR.val) :
    iprop(env m K ∗ owe c (n + 1) ∗ holds src c q v ∗ anyAt dst t ∗ X ∗ tok c jS false ∗ tok t jR false)
      ⊢ iprop(((owe c n ∗ credit c jS (amt jS.val)) -∗ wp frame (wpE (defs₀ (F := F)) 𝒱₀ (c : Thread nD τ) none) Set.univ (k ⟨⟩) Q)
          -∗ wp frame (wpE (defs₀ (F := F)) 𝒱₀ (c : Thread nD τ) none) Set.univ
              (.op (.enqueueDma src (.remote (Dev.tc t' : Thread nD τ) dst (.dma sS) hsc) (.dma sem) hsrc hdst hsem) k) Q) := by
  subst ht
  have h1 : kcell (c, jS) = ((c : Thread nD τ), SemLoc.dma sS) := by rw [hsS]
  have h2 : kcell (t', jR) = ((t' : Thread nD τ), SemLoc.dma sem) := by rw [hsR]
  have hO : owed c (n + 1) = owed c n + tallyAt ((t' : Thread nD τ), SemLoc.dma sem) true (amt jR.val) := by
    show owed c n + tallyAt (kcell (debt c n)) true (amt (debt c n).2.val) = _
    rw [hn, h2]
  unfold owe anyAt
  iintro ⟨#HE, ⟨%W, HO⟩, Hsrc, ⟨%fd, Hdst⟩, HX, Ht1, Ht2⟩ Hk
  iapply (Rounds.wp_send_pointsTo_with 𝒱₀ ER (Rd m) (c : Thread nD τ) none (κ₁ := K (c, jS)) (κ₂ := K (t', jR))
      (r₁ := 0) (r₂ := 0) (d₁ := false) (d₂ := false) (fs := src.view.rep v) (fd := fd) (F := X) (q := q)
      (by rw [← h1, duties_one m c jS hjS]; exact Finset.mem_singleton_self _) (by rw [← h2, duties_one m t' jR hjR]; exact Finset.mem_singleton_self _)
      true true (amt jR.val) (show dst.view.amount (.dma sem) = _ from hN) (by rw [← h1, amount_eq, hA]) (by rw [← h2, amount_eq]) (O₀ := owed c (n + 1)) (owed c n) hO (W := W)
      (by rw [← h1, payload_eq]; exact hp₁)
      (by
        rw [← h2, payload_eq]
        refine (sep_mono_left ?_).trans hp₂
        exact to_holds dst t' fullShare _ v (by rw [View.read_write_univ, View.read_rep])))
    $$ [HO Hsrc Hdst HX Ht1 Ht2]
  · isplitr; · rw [← h1]; iapply (env_inv m K (c, jS)); iexact HE
    isplitr; · rw [← h2]; iapply (env_inv m K (t', jR)); iexact HE
    isplitl [Hsrc]; · iexact Hsrc
    isplitl [Hdst HX]; · isplitl [Hdst] <;> iassumption
    isplitl [HO]; · iexact HO
    isplitl [Ht1]; · rw [← h1]; iexact Ht1
    isplitr; · rw [← h1]; iapply (env_reached m K (c, jS)); iexact HE
    isplitl [Ht2]; · rw [← h2]; iexact Ht2
    rw [← h2]; iapply (env_reached m K (t', jR)); iexact HE
  iintro ⟨Hcr, HO⟩
  iapply Hk
  isplitl [HO]; · iexists W; iexact HO
  iapply (Entails.of_eq (show cred (tallyAt ((c : Thread nD τ), SemLoc.dma sS) true (amt jR.val)) = (credit c jS (amt jS.val) : sProp 𝕄) by rw [← h1, hA])); iexact Hcr

/-- A cell whose round is over closes at zero. -/
theorem close_cell (j : Fin 19) : iprop(env m K ∗ done c j) ⊢ iprop(|={Set.univ}=> semVal (kcell (c, j)) 0 : sProp 𝕄) := by
  iintro ⟨#HE, Hat⟩
  iapply (Rounds.cell_close ER (Rd m) (Set.mem_univ (K (c, j))) (fun h => h) (R := 0 + 1) (duties_later m (kcell (c, j))))
  isplitr; · iapply (env_inv m K (c, j)); iexact HE
  iexact Hat

end Rules

end Cert.MeshProof

end
-- ==== Proof.Parts.lean ====
/-
The body as its parts, each on the buffers and semaphores the launch hands it.
-/
module

public import proofs.«01_k».proof.Proof.Steps

@[expose] public section

set_option maxRecDepth 16384

noncomputable section

namespace Cert.MeshProof

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Bool (Elt F) ℕ UU ℕ

/-- A part at the kernel's buffers and semaphores. -/
abbrev onBufs {β : Type 1}
    (f : (a0 : Memref sig .tc .hbm S1024x4096 .f32) → a0.IsWhole → (a1 : Memref sig .tc .hbm S4096x2048 .f32) → a1.IsWhole
      → (a2 : Memref sig .tc .hbm S4096x2048 .bf16) → a2.IsWhole → (a3 : Memref sig .tc .hbm S3x1024x4096 .bf16) → a3.IsWhole
      → (a4 : Memref sig .tc .vmem S1024x4096 .bf16) → a4.IsWhole → (a5 : Memref sig .tc .vmem S4096x2048 .bf16) → a5.IsWhole
      → (a6 : Memref sig .tc .vmem S2x512x4096 .bf16) → a6.IsWhole → (a7 : Memref sig .tc .vmem S512x2048 .f32) → a7.IsWhole
      → (a8 : Memref sig .tc .vmem S512x2048 .f32) → a8.IsWhole → (a9 : Memref sig .tc .vmem S3x512x2048 .bf16) → a9.IsWhole
      → DmaSems sig S6 → DmaSems sig S6 → DmaSems sig S8 → (a13 : Memref sig .tc .vmem S4x8x128 .f32) → a13.IsWhole
      → DmaSems sig S3 → DmaSems sig S3 → β) : β :=
  f aM (Memref.isWhole_whole _) bM (Memref.isWhole_whole _) oM (Memref.isWhole_whole _) cM (Memref.isWhole_whole _)
    xM (Memref.isWhole_whole _) wM (Memref.isWhole_whole _) sM (Memref.isWhole_whole _) f0M (Memref.isWhole_whole _)
    f1M (Memref.isWhole_whole _) yM (Memref.isWhole_whole _) cc0_scratch6 cc0_scratch7 cc0_scratch8 mM (Memref.isWhole_whole _)
    cc0_scratch10 cc0_scratch11

end Cert.MeshProof

end
-- ==== Proof.Content.lean ====
/-
What the stores and the windows of the body read: the pieces that a buffer is filled by, and the slots with a unit axis
in front.
-/
module

public import proofs.«01_k».proof.Proof.Parts

@[expose] public section

set_option maxRecDepth 16384

noncomputable section

namespace Cert.MeshProof

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Bool (Elt F) ℕ UU ℕ

variable (m : (ℓ : Loc nD τ sig) → Buf (Elt F) ℓ)

/-- A weakest precondition of the body on device `c`. -/
abbrev wpK {α : Type} (c : Dev nD) (p : Prog (TpuEff nD τ sig (Elt F) Λ₀ .tc) α) (Q : α → sProp 𝕄) : sProp 𝕄 :=
  wp frame (wpE (defs₀ (F := F)) 𝒱₀ (c : Thread nD τ) none) Set.univ p Q

theorem owe_intro (c : Dev nD) (n : ℕ) (W : Waits sig Bool) : (owes (c : Thread nD τ) (owed c n) W : sProp 𝕄) ⊢ owe c n := by
  unfold owe; iintro H; iexists W; iexact H

theorem owe_open (c : Dev nD) (n : ℕ) : (owe c n : sProp 𝕄) ⊢ iprop(∃ W : Waits sig Bool, owes (c : Thread nD τ) (owed c n) W) := by
  unfold owe; exact .rfl
theorem any_open {sp : Space} {s : Shape} {e : EltTy} (M : Memref sig .tc sp s e) (c : Dev nD) :
    (anyAt M c : sProp 𝕄) ⊢ iprop(∃ f : Buf (Elt F) (M.view.loc (c : Thread nD τ)), M.view.loc (c : Thread nD τ) ↦[M.view.set]{fullShare} f) := by
  unfold anyAt; exact .rfl

/-- A local semaphore at zero; -/
abbrev zs (c : Dev nD) (k : Fin 26) : sProp 𝕄 := semVal ((c : Thread nD τ), SemLoc.dma k) 0
/-- a whole buffer at contents `f`, or at contents it does not say; -/
abbrev atW {sp : Space} {s : Shape} {e : EltTy} (M : Memref sig .tc sp s e) (c : Dev nD) (f : Buf (Elt F) (M.view.loc (c : Thread nD τ))) : sProp 𝕄 :=
  M.view.loc (c : Thread nD τ) ↦[Finset.univ]{fullShare} f
def anyW {sp : Space} {s : Shape} {e : EltTy} (M : Memref sig .tc sp s e) (c : Dev nD) : sProp 𝕄 :=
  iprop(∃ f : Buf (Elt F) (M.view.loc (c : Thread nD τ)), M.view.loc (c : Thread nD τ) ↦[Finset.univ]{fullShare} f)
/-- the arguments. -/
abbrev argA (c : Dev nD) : sProp 𝕄 := atW aM c (m ((c : Thread nD τ).loc main_arg0))
abbrev argB (c : Dev nD) : sProp 𝕄 := atW bM c (m ((c : Thread nD τ).loc main_arg1))

theorem to_anyW {sp : Space} {s : Shape} {e : EltTy} (M : Memref sig .tc sp s e) (c : Dev nD)
    (f : Buf (Elt F) (M.view.loc (c : Thread nD τ))) : (atW M c f : sProp 𝕄) ⊢ anyW M c := by
  unfold anyW; iintro H; iexists f; iexact H

/-- A load of a whole view just written. -/
theorem readAt_write_full {κ : Kind} {sp : Space} {s : Shape} {e : EltTy} (v : View sig κ sp s e) (f : v.ty.Contents (Elt F)) (w : s.Idx → Elt F e)
    {off : Fin s.rank → ℕ} (inb : ∀ a, off a + s.size a ≤ s.size a) :
    v.readAt (Elt F) (Rect.unit off s.size inb).toLoadRect (v.write (Elt F) f w Finset.univ) = w := by
  rw [View.readAt_full, View.read_write_univ]

/-- The rectangles of `x`'s and `w`'s loads and stores. -/
abbrev rX (r k : ℕ) (h : ∀ a, (![r, k] : Fin 2 → ℕ) a + S512x2048.size a ≤ S1024x4096.size a) : Rect S1024x4096 := Rect.unit ![r, k] S512x2048.size h
abbrev rW (r : ℕ) (h : ∀ a, (![r, 0] : Fin 2 → ℕ) a + S512x2048.size a ≤ S4096x2048.size a) : Rect S4096x2048 := Rect.unit ![r, 0] S512x2048.size h

/-- A tile of 512 by 2048 as it is stored: rounded. -/
def rnd (v : S512x2048.Idx → F .f32) : S512x2048.Idx → Elt F .bf16 :=
  shapeCast S512x2048 (truncf .bf16 (v : FVec F S512x2048 .f32) bitsLt_bf16_f32 : FVec F S512x2048 .bf16) shapeCasts_S512x2048_S512x2048

theorem rnd_apply (v : S512x2048.Idx → F .f32) : rnd (F := F) v = truncf .bf16 (v : FVec F S512x2048 .f32) bitsLt_bf16_f32 := by
  unfold rnd; exact shapeCast_self _ _

theorem rnd_x (c : Dev nD) (r k : ℕ) (h) (x : (rX r k h).shape.Idx) :
    rnd ((aM.slice (rX r k h) (fun _ => rfl)).view.read (Elt F) (m ((c : Thread nD τ).loc main_arg0))) x = xbf m c ((rX r k h).emb x) := by
  rw [rnd_apply]; rfl
theorem rnd_w (c : Dev nD) (r : ℕ) (h) (x : (rW r h).shape.Idx) :
    rnd ((bM.slice (rW r h) (fun _ => rfl)).view.read (Elt F) (m ((c : Thread nD τ).loc main_arg1))) x = wbf m c ((rW r h).emb x) := by
  rw [rnd_apply]; rfl

/-- Two tiles side by side fill a half of the rounded rows. -/
theorem x_cover (r : ℕ) (hr : ∀ a, (![r, 0] : Fin 2 → ℕ) a + S512x4096.size a ≤ S1024x4096.size a) (h0 h1)
    (y : S512x4096.Idx) (hlt : r + 512 ≤ 1024) : (Rect.unit (s := S1024x4096) ![r, 0] S512x4096.size hr).emb y ∈ (rX r 2048 h1).set
      ∨ (Rect.unit (s := S1024x4096) ![r, 0] S512x4096.size hr).emb y ∈ (rX r 0 h0).set := by
  rw [Rect.mem_set_unit, Rect.mem_set_unit]
  have e0 : ((Rect.unit (s := S1024x4096) ![r, 0] S512x4096.size hr).emb y (0 : Fin 2)).val = r + (y (0 : Fin 2)).val := by
    show r + 1 * (y (0 : Fin 2)).val = _; omega
  have e1 : ((Rect.unit (s := S1024x4096) ![r, 0] S512x4096.size hr).emb y (1 : Fin 2)).val = (y (1 : Fin 2)).val := by
    show 0 + 1 * (y (1 : Fin 2)).val = _; omega
  have l0 : (y (0 : Fin 2)).val < 512 := (y (0 : Fin 2)).isLt
  have l1 : (y (1 : Fin 2)).val < 4096 := (y (1 : Fin 2)).isLt
  by_cases h : (y (1 : Fin 2)).val < 2048
  · right
    refine Fin.forall_fin_two.mpr ⟨?_, ?_⟩
    · rw [e0]; exact ⟨Nat.le_add_right _ _, by show _ < r + 512; omega⟩
    · rw [e1]; exact ⟨Nat.zero_le _, by show _ < 0 + 2048; omega⟩
  · left
    refine Fin.forall_fin_two.mpr ⟨?_, ?_⟩
    · rw [e0]; exact ⟨Nat.le_add_right _ _, by show _ < r + 512; omega⟩
    · rw [e1]; exact ⟨by show 2048 ≤ _; omega, by show _ < 2048 + 2048; omega⟩

/-- The pieces stored into `x` hold its rounding where they lie. -/
theorem x_content (c : Dev nD) (r : ℕ) (hr : ∀ a, (![r, 0] : Fin 2 → ℕ) a + S512x4096.size a ≤ S1024x4096.size a) (h0 h1) (hlt : r + 512 ≤ 1024)
    (fx : xM.view.ty.Contents (Elt F)) (v1 v2 : S512x2048.Idx → Elt F .bf16)
    (e1 : v1 = rnd ((aM.slice (rX r 0 h0) (fun _ => rfl)).view.read (Elt F) (m ((c : Thread nD τ).loc main_arg0))))
    (e2 : v2 = rnd ((aM.slice (rX r 2048 h1) (fun _ => rfl)).view.read (Elt F) (m ((c : Thread nD τ).loc main_arg0)))) :
    (xM.slice (Rect.unit (s := S1024x4096) ![r, 0] S512x4096.size hr) (fun _ => rfl)).view.read (Elt F)
      ((xM.access (rX r 2048 h1)).write (Elt F) ((xM.access (rX r 0 h0)).write (Elt F) fx v1 Finset.univ) v2 Finset.univ)
      = (xM.slice (Rect.unit (s := S1024x4096) ![r, 0] S512x4096.size hr) (fun _ => rfl)).view.read (Elt F) (xbf m c) := by
  subst e1 e2
  funext y
  exact View.read_writes_apply_of_pieces (v := xM.view) (f := fx) (xbf m c)
    [⟨rX r 2048 h1, _⟩, ⟨rX r 0 h0, _⟩]
    (by
      intro p hp x
      rcases List.mem_cons.mp hp with rfl | hp
      · exact rnd_x m c r 2048 h1 x
      · obtain rfl := List.mem_singleton.mp hp
        exact rnd_x m c r 0 h0 x)
    ((Rect.unit (s := S1024x4096) ![r, 0] S512x4096.size hr).emb y)
    (by
      rcases x_cover r hr h0 h1 y hlt with h | h
      · exact ⟨_, List.mem_cons_self, h⟩
      · exact ⟨_, List.mem_cons_of_mem _ List.mem_cons_self, h⟩)

/-- Eight tiles one above the other fill the rounded columns of `w`. -/
theorem mem_rW (r : ℕ) (h) (y : S4096x2048.Idx) (h0 : r ≤ (y (0 : Fin 2)).val) (h1 : (y (0 : Fin 2)).val < r + 512) : y ∈ (rW r h).set := by
  rw [Rect.mem_set_unit]
  refine Fin.forall_fin_two.mpr ⟨⟨h0, h1⟩, Nat.zero_le _, ?_⟩
  have l1 : (y (1 : Fin 2)).val < 2048 := (y (1 : Fin 2)).isLt
  show _ < 0 + 2048
  omega

/-- The tile of `w` at row `r`, as stored. -/
def tileW (c : Dev nD) (r : ℕ) (h : ∀ a, (![r, 0] : Fin 2 → ℕ) a + S512x2048.size a ≤ S4096x2048.size a) : View.Piece (Elt F) S4096x2048 .bf16 :=
  ⟨rW r h, rnd ((bM.slice (rW r h) (fun _ => rfl)).view.read (Elt F) (m ((c : Thread nD τ).loc main_arg1)))⟩

theorem tileW_eq {κ : Kind} {sp : Space} (v : View sig κ sp S512x2048 .f32) (f : v.ty.Contents (Elt F)) (c : Dev nD) (r : ℕ) (h) {off : Fin 2 → ℕ}
    (inb : ∀ a, off a + S512x2048.size a ≤ S512x2048.size a) :
    (⟨rW r h, rnd (v.readAt (Elt F) (Rect.unit (s := S512x2048) off S512x2048.size inb).toLoadRect (v.write (Elt F) f
      ((bM.slice (rW r h) (fun _ => rfl)).view.read (Elt F) (m ((c : Thread nD τ).loc main_arg1))) Finset.univ))⟩ : View.Piece (Elt F) S4096x2048 .bf16) = tileW m c r h := by
  rw [readAt_write_full]; rfl

theorem w_content (c : Dev nD) (fw : wM.view.ty.Contents (Elt F)) (h0 h1 h2 h3 h4 h5 h6 h7) :
    wM.view.read (Elt F) (wM.view.writes (Elt F) fw [tileW m c 3584 h7, tileW m c 3072 h6, tileW m c 2560 h5, tileW m c 2048 h4,
      tileW m c 1536 h3, tileW m c 1024 h2, tileW m c 512 h1, tileW m c 0 h0]) = wbf m c := by
  funext y
  refine View.read_writes_apply_of_pieces (v := wM.view) (f := fw) (wbf m c) _ ?_ y ?_
  · intro p hp x
    simp only [List.mem_cons, List.not_mem_nil, or_false] at hp
    rcases hp with rfl | rfl | rfl | rfl | rfl | rfl | rfl | rfl <;> exact rnd_w m c _ _ x
  · have l0 : (y (0 : Fin 2)).val < 4096 := (y (0 : Fin 2)).isLt
    simp only [List.mem_cons, List.not_mem_nil, or_false, exists_eq_or_imp, exists_eq_left]
    by_cases a7 : 3584 ≤ (y (0 : Fin 2)).val
    · exact .inl (mem_rW _ h7 y a7 (by omega))
    by_cases a6 : 3072 ≤ (y (0 : Fin 2)).val
    · exact .inr (.inl (mem_rW _ h6 y a6 (by omega)))
    by_cases a5 : 2560 ≤ (y (0 : Fin 2)).val
    · exact .inr (.inr (.inl (mem_rW _ h5 y a5 (by omega))))
    by_cases a4 : 2048 ≤ (y (0 : Fin 2)).val
    · exact .inr (.inr (.inr (.inl (mem_rW _ h4 y a4 (by omega)))))
    by_cases a3 : 1536 ≤ (y (0 : Fin 2)).val
    · exact .inr (.inr (.inr (.inr (.inl (mem_rW _ h3 y a3 (by omega))))))
    by_cases a2 : 1024 ≤ (y (0 : Fin 2)).val
    · exact .inr (.inr (.inr (.inr (.inr (.inl (mem_rW _ h2 y a2 (by omega)))))))
    by_cases a1 : 512 ≤ (y (0 : Fin 2)).val
    · exact .inr (.inr (.inr (.inr (.inr (.inr (.inl (mem_rW _ h1 y a1 (by omega))))))))
    · exact .inr (.inr (.inr (.inr (.inr (.inr (.inr (mem_rW _ h0 y (by omega) (by omega))))))))

/-- The same with the pieces as a run lists them. -/
theorem w_list {L : List (View.Piece (Elt F) S4096x2048 .bf16)} (c : Dev nD) (fw : wM.view.ty.Contents (Elt F)) {h0 h1 h2 h3 h4 h5 h6 h7}
    (hL : L = [tileW m c 3584 h7, tileW m c 3072 h6, tileW m c 2560 h5, tileW m c 2048 h4,
      tileW m c 1536 h3, tileW m c 1024 h2, tileW m c 512 h1, tileW m c 0 h0]) :
    wM.view.read (Elt F) (wM.view.writes (Elt F) fw L) = wbf m c := by subst hL; exact w_content m c fw _ _ _ _ _ _ _ _

/-- A whole buffer is held as the contents it reads. -/
theorem to_rep {sp : Space} {s : Shape} {e : EltTy} (M : Memref sig .tc sp s e) (hM : M.view.set = Finset.univ) (c : Dev nD)
    (g : Buf (Elt F) (M.view.loc (c : Thread nD τ))) (v : s.Idx → Elt F e) (h : M.view.read (Elt F) g = v) :
    (atW M c g : sProp 𝕄) ⊢ atW M c (M.view.rep v) := by
  have := to_holds M c fullShare g v h
  unfold holds at this
  rwa [hM] at this

/-! ## Slots with a unit axis in front -/

/-- What is stored in a slot through the buffer is read through the slot with the unit axis dropped; -/
theorem slot_write {sp : Space} {S s : Shape} {e : EltTy} (M : Memref sig .tc sp S e) (o : Fin S.rank → ℕ) (size : Fin S.rank → ℕ) (h : ∀ a, o a + size a ≤ S.size a)
    (hs1 : (Rect.unit (s := S) o size h).shape.Squeezes s) (f : M.view.ty.Contents (Elt F)) (v : s.Idx → Elt F e)
    (hv : s.ShapeCasts (Rect.unit (s := S) o size h).shape) :
    ((M.slice (Rect.unit (s := S) o size h) (fun _ => rfl)).squeeze s hs1).view.read (Elt F)
      ((M.access (Rect.unit (s := S) o size h)).write (Elt F) f (shapeCast (Rect.unit (s := S) o size h).shape v hv) Finset.univ) = v := by
  funext y
  show (M.view.slice (Rect.unit (s := S) o size h)).read (Elt F) ((M.view.slice (Rect.unit (s := S) o size h)).write (Elt F) f _ Finset.univ)
    (Shape.reshapeEquiv hs1.numel_eq y) = v y
  rw [View.read_write_univ]
  show v (Shape.reshapeEquiv _ (Shape.reshapeEquiv _ y)) = v y
  rw [Shape.reshapeEquiv_reshapeEquiv, Shape.reshapeEquiv_self]

/-- a load of a slot through the buffer has the unit axis in front. -/
theorem slot_load {sp : Space} {S s : Shape} {e : EltTy} (M : Memref sig .tc sp S e) (o : Fin S.rank → ℕ) (size : Fin S.rank → ℕ) (h : ∀ a, o a + size a ≤ S.size a)
    (hs1 : (Rect.unit (s := S) o size h).shape.Squeezes s) (g : M.view.ty.Contents (Elt F)) (v : s.Idx → Elt F e) (hv : s.ShapeCasts (Rect.unit (s := S) o size h).shape)
    (hg : ((M.slice (Rect.unit (s := S) o size h) (fun _ => rfl)).squeeze s hs1).view.read (Elt F) g = v) :
    M.view.readAt (Elt F) (Rect.unit (s := S) o size h).toLoadRect g = shapeCast (Rect.unit (s := S) o size h).shape v hv := by
  funext y
  refine Eq.trans ?_ (congrFun hg (Shape.reshapeEquiv hv y))
  show (M.view.slice (Rect.unit (s := S) o size h)).read (Elt F) _ y
    = (M.view.slice (Rect.unit (s := S) o size h)).read (Elt F) _ (Shape.reshapeEquiv hs1.numel_eq (Shape.reshapeEquiv hv y))
  rw [Shape.reshapeEquiv_reshapeEquiv, Shape.reshapeEquiv_self]

/-- The last of several whole writes is what is read. -/
theorem read_head {sp : Space} {s : Shape} {e : EltTy} (M : Memref sig .tc sp s e) (f : M.view.ty.Contents (Elt F)) (w v : s.Idx → Elt F e)
    (P : List (View.Piece (Elt F) s e)) (h : w = v) : M.view.read (Elt F) (M.view.writes (Elt F) f (⟨Rect.whole s, w⟩ :: P)) = v :=
  (View.read_writes_whole M.view (M.view.writes (Elt F) f P) w).trans h

/-- The product of a staged half is the product of the half. -/
theorem pay20_up (v : S512x4096.Idx → Elt F .bf16) (w : Vec F S4096x2048 .bf16) : k0_pay20 (up v) w = k0_pay14 v w := by
  show k0_pay14 (shapeCast S512x4096 (up v) shapeCasts_S1x512x4096_S512x4096) w = _
  unfold up
  rw [shapeCast_shapeCast]
theorem store20 (c d : Dev nD) (h : Fin 2) : k0_pay22 (up (xh m d h)) (wbf m c) = shapeCast S1x512x2048 (yb m c d h) shapeCasts_S512x2048_S1x512x2048 := by
  show shapeCast S1x512x2048 (truncf .bf16 (k0_pay20 (up (xh m d h)) (wbf m c)) bitsLt_bf16_f32) _ = _
  rw [pay20_up]; rfl

theorem pay40_am (c : Dev nD) : k0_pay40 (mx7 m c) = shapeCast S1x8x128 (am m c) squeezes_S1x8x128_S8x128.numel_eq.symm := by
  unfold am
  rw [shapeCast_shapeCast]

/-- A local transfer in flight on semaphore `k` of device `c`, and a result block's on its way out of a slot. -/
abbrev flight (c : Dev nD) (k : Fin 26) (n : ℕ) (D : sProp 𝕄) : sProp 𝕄 :=
  Transfers.Flight (countersEmb (U := UU)) (c : Thread nD τ) (.dma k) false n D
abbrev outF {sp sp' : Space} (c : Dev nD) (k : Fin 26) (M : Memref sig .tc sp S512x2048 .bf16) (v : S512x2048.Idx → Elt F .bf16)
    (y : Memref sig .tc sp' S512x2048 .bf16) : sProp 𝕄 := flight c k 65536 iprop(holds M c fullShare v ∗ holds y c fullShare v)

theorem to_outF {sp sp' : Space} (c : Dev nD) (k : Fin 26) (M : Memref sig .tc sp S512x2048 .bf16) (v : S512x2048.Idx → Elt F .bf16)
    (y : Memref sig .tc sp' S512x2048 .bf16) (f : Buf (Elt F) (M.view.loc (c : Thread nD τ))) (w : S512x2048.Idx → Elt F .bf16) (g : Buf (Elt F) (y.view.loc (c : Thread nD τ)))
    (h : w = v) (h' : y.view.read (Elt F) g = v) :
    flight c k 65536 iprop((M.view.loc (c : Thread nD τ) ↦[M.view.set]{fullShare} M.view.writes (Elt F) f [⟨Rect.whole S512x2048, w⟩]) ∗ (y.view.loc (c : Thread nD τ) ↦[y.view.set]{fullShare} g))
      ⊢ outF c k M v y :=
  Transfers.Flight_mono _ _ (BI.sep_mono (to_holds M c fullShare _ v ((View.read_writes_whole _ _ _).trans h)) (to_holds y c fullShare g v h'))

/-- The blocks of the result: the device's own rows, its left neighbour's, its right one's, the opposite device's. -/
abbrev bOwn0 (c : Dev nD) := blk (k0_off1 c 0#32) (k0_off1_inb c 0)
abbrev bOwn1 (c : Dev nD) := blk (k0_off1 c 512#32) (k0_off1_inb c 1)
abbrev bPrv0 (c : Dev nD) := blk (k0_off2 c 0#32) (k0_off2_inb c 0)
abbrev bPrv1 (c : Dev nD) := blk (k0_off2 c 512#32) (k0_off2_inb c 1)
abbrev bNxt0 (c : Dev nD) := blk (k0_off3 c 1#32 0#32) (k0_off3_inb c 0 0)
abbrev bNxt1 (c : Dev nD) := blk (k0_off3 c 1#32 512#32) (k0_off3_inb c 0 1)
abbrev bOpp0 (c : Dev nD) := blk (k0_off3 c 2#32 0#32) (k0_off3_inb c 1 0)
abbrev bOpp1 (c : Dev nD) := blk (k0_off3 c 2#32 512#32) (k0_off3_inb c 1 1)

end Cert.MeshProof

end
-- ==== Proof.SegA.lean ====
/-
The first stage: the first half of `x` is loaded, rounded and stored, and the neighbours are told that the landing
windows are free.
-/
module

public import proofs.«01_k».proof.Proof.Content

@[expose] public section

set_option maxRecDepth 16384

noncomputable section

namespace Cert.MeshProof

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Bool (Elt F) ℕ UU ℕ

variable (m : (ℓ : Loc nD τ sig) → Buf (Elt F) ℓ)

/-- What the first stage starts from; -/
def preA (c : Dev nD) : sProp 𝕄 :=
  iprop(owe c 11 ∗ argA m c ∗ anyAt x0 c ∗ anyW f0M c ∗ anyW f1M c
      ∗ tok (prv c) 0 true ∗ tok (nxt c) 0 false ∗ pay m (prv c) true 0 ∗ pay m (nxt c) false 0 ∗ credit c 0 2 ∗ todo c 0
      ∗ zs c 12 ∗ zs c 13)
/-- and what it leaves. -/
def postA (c : Dev nD) : sProp 𝕄 :=
  iprop(owe c 9 ∗ argA m c ∗ holds x0 c fullShare (xh m c 0) ∗ anyW f0M c ∗ anyW f1M c
      ∗ pay m c false 0 ∗ pay m c true 0 ∗ done c 0 ∗ zs c 12 ∗ zs c 13)

set_option maxHeartbeats 4000000 in
set_option sl_exec.dmaWindow true in
theorem segA (K : Dev nD × Fin 19 → ℕ) (c : Dev nD) {α : Type} (Q : α → sProp 𝕄)
    (kt : (Σ' (d0 : Dev nD) (v2 : BitVec 32) (v13 : BitVec 32), BitVec 32) → PUnit → Prog (TpuEff nD τ sig (Elt F) Λ₀ .tc) α) :
    iprop(env m K ∗ preA m c ∗ (∀ v : Σ' (_ : BitVec 32) (_ : BitVec 32), BitVec 32, postA m c -∗ wpK c (kt ⟨c, v⟩ ⟨⟩) Q))
      ⊢ wpK c (onBufs (k0_part1 (F := F)) >>= fun r => onBufs (k0_part2 (F := F)) r.1 r.2.2.1 r.2.2.2 >>= kt r) Q := by
  unfold preA owe wpK onBufs anyAt anyW
  iintro ⟨#HE, ⟨⟨%W, HO⟩, Ha, ⟨%fx, Hx⟩, ⟨%f0, Hf0⟩, ⟨%f1, Hf1⟩, Ht1, Ht2, Hp1, Hp2, Hc, Hat, Hs0, Hs1⟩, Hk⟩
  ihave #HL := (env_lev m K) $$ HE
  ihave #HW := (mayWaits_own (F := F) c 11 (by decide)) $$ HL
  sl_exec
  ihave HO := (owe_intro (F := F) c 11 _) $$ HO
  iapply (wp_bar m K c 10 (dev1_eq c) true rfl) $$ [HO Ht1 Hp1]
  · isplitr; · iexact HE
    isplitl [HO]; · iexact HO
    isplitl [Ht1] <;> iassumption
  iintro HO
  sl_exec
  iapply (wp_bar m K c 9 (dev2_eq c) false rfl) $$ [HO Ht2 Hp2]
  · isplitr; · iexact HE
    isplitl [HO]; · iexact HO
    isplitl [Ht2] <;> iassumption
  iintro HO
  sl_exec
  iapply (wp_wait_bar m K c 9 (above_of 1 9 (by decide) (by decide))) $$ [HO Hc Hat]
  · isplitr; · iexact HE
    isplitl [HO]; · iexact HO
    isplitl [Hc] <;> iassumption
  iintro ⟨HO, Hat, Hp1, Hp2⟩
  sl_exec
  ihave Hx := (to_holds x0 c fullShare _ (xh m c 0) (by
    unfold segA.sl.Hx_w4 segA.sl.Hx_w3
    exact x_content m c 0 inb_S1024x4096_S512x4096_0_0 _ _ (by decide) fx _ _ (congrArg rnd (readAt_write_full _ _ _ _)) (congrArg rnd (readAt_write_full _ _ _ _)))) $$ Hx
  iapply Hk
  unfold postA
  isplitl [HO]; · iexact HO
  isplitl [Ha]; · iexact Ha
  isplitl [Hx]; · iexact Hx
  isplitl [Hf0]; · iapply (to_anyW f0M c); iexact Hf0
  isplitl [Hf1]; · iapply (to_anyW f1M c); iexact Hf1
  isplitl [Hp1]; · iexact Hp1
  isplitl [Hp2]; · iexact Hp2
  isplitl [Hat]; · iexact Hat
  isplitl [Hs0]; · iexact Hs0
  iexact Hs1

end Cert.MeshProof

end
-- ==== Proof.SegB.lean ====
/-
The second stage: both halves of the device's rows go to both neighbours, the columns of `w` are loaded, rounded and
stored, and the product of the device's own rows is begun.
-/
module

public import proofs.«01_k».proof.Proof.Content

@[expose] public section

set_option maxRecDepth 16384

noncomputable section

namespace Cert.MeshProof

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Bool (Elt F) ℕ UU ℕ

variable (m : (ℓ : Loc nD τ sig) → Buf (Elt F) ℓ)

/-- What the second stage starts from; -/
def preB (c : Dev nD) : sProp 𝕄 :=
  iprop(owe c 9 ∗ argA m c ∗ argB m c ∗ holds x0 c fullShare (xh m c 0) ∗ anyAt x1 c ∗ anyW wM c ∗ anyW f0M c ∗ anyW f1M c
      ∗ pay m c false 0 ∗ pay m c true 0 ∗ anyAt m2 c ∗ anyAt y0 c ∗ anyAt (bOwn0 c) c
      ∗ tok c 1 false ∗ tok c 2 false ∗ tok c 3 false ∗ tok c 4 false
      ∗ tok (nxt c) 7 false ∗ tok (prv c) 9 false ∗ tok (nxt c) 8 false ∗ tok (prv c) 10 false
      ∗ zs c 12 ∗ zs c 13 ∗ zs c 14)

/-- and what it leaves: the credits for the four sends, the neighbours' windows not yet used, and the first block of the
    product on its way out. -/
def postB (c : Dev nD) : sProp 𝕄 :=
  iprop(owe c 5 ∗ argA m c ∗ argB m c ∗ holds x0 c fullShare.left (xh m c 0) ∗ holds x1 c fullShare.left (xh m c 1)
      ∗ atW wM c (wM.view.rep (wbf m c)) ∗ anyW f0M c ∗ anyW f1M c
      ∗ anyAt c21 (prv c) ∗ anyAt m3 (prv c) ∗ anyAt c20 (nxt c) ∗ anyAt m1 (nxt c)
      ∗ credit c 1 N ∗ credit c 2 N ∗ credit c 3 N ∗ credit c 4 N ∗ zs c 12 ∗ zs c 13
      ∗ outF c 14 (bOwn0 c) (yb m c c 0) y0)

set_option maxHeartbeats 8000000 in
set_option sl_exec.dmaWindow true in
theorem segB (K : Dev nD × Fin 19 → ℕ) (c : Dev nD) {α : Type} (Q : α → sProp 𝕄) (v2 v13 v24 : BitVec 32)
    (kt : (Σ' (v226 : F .f32), FVec F S512x2048 .bf16) → Prog (TpuEff nD τ sig (Elt F) Λ₀ .tc) α) :
    iprop(env m K ∗ preB m c ∗ (postB m c -∗ wpK c (kt ⟨mx1 m c, k0_pay18 (xh m c 1) (wbf m c)⟩) Q))
      ⊢ wpK c (onBufs (k0_part3 (F := F)) c v13 >>= fun _ => onBufs (k0_part4 (F := F)) c v13 v24 >>= fun _ =>
          onBufs (k0_part5 (F := F)) >>= fun _ => onBufs (k0_part6 (F := F)) >>= fun _ => onBufs (k0_part7 (F := F)) >>= fun v194 =>
          onBufs (k0_part8 (F := F)) c v2 v194 >>= kt) Q := by
  unfold preB owe wpK onBufs anyW
  iintro ⟨#HE, ⟨⟨%W, HO⟩, Ha, Hb, Hx0, Hx, ⟨%fw, Hw⟩, ⟨%f0, Hf0⟩, ⟨%f1, Hf1⟩, Hp1, Hp2, Hm2, Hy0, Ho, Ht1, Ht2, Ht3, Ht4, Hr7, Hr9, Hr8, Hr10, Hs0, Hs1, Hs2⟩, Hk⟩
  ihave #HL := (env_lev m K) $$ HE
  ihave Hp1 := (show pay m c false 0 ⊢ iprop(anyAt c10 (prv c) ∗ anyAt c11 (prv c) ∗ anyAt c21 (prv c) ∗ anyAt m3 (prv c)) from .rfl) $$ Hp1
  ihave Hp2 := (show pay m c true 0 ⊢ iprop(anyAt c00 (nxt c) ∗ anyAt c01 (nxt c) ∗ anyAt c20 (nxt c) ∗ anyAt m1 (nxt c)) from .rfl) $$ Hp2
  icases Hp1 with ⟨Hc10, Hc11, Hc21, Hm3⟩
  icases Hp2 with ⟨Hc00, Hc01, Hc20, Hm1⟩
  ihave Hx0 := ((holds_halves x0 c fullShare (xh m c 0)).1) $$ Hx0
  icases Hx0 with ⟨Hx0, Hx0r⟩
  ihave Hx0r := ((holds_halves x0 c fullShare.right (xh m c 0)).1) $$ Hx0r
  icases Hx0r with ⟨Hx0a, Hx0b⟩
  ihave Hx := (any_open x1 c) $$ Hx
  icases Hx with ⟨%fx, Hx⟩
  ihave Hy0 := (any_open y0 c) $$ Hy0
  icases Hy0 with ⟨%fy, Hy0⟩
  ihave Ho := (any_open (bOwn0 c) c) $$ Ho
  icases Ho with ⟨%fo, Ho⟩
  sl_exec
  ihave HO := (owe_intro (F := F) c 9 _) $$ HO
  iapply (wp_copy m K c 8 (dev3_eq c) 1 7 (by decide) (by decide) rfl rfl (src := x0) (dst := c00) (sS := (0 : Fin 26)) (sem := (6 : Fin 26)) rfl rfl rfl
      fullShare.right.left (xh m c 0) (anyAt m2 c) .rfl
      (by show _ ⊢ iprop(holds c00 (nxt c) fullShare (xh m (prv (nxt c)) 0) ∗ anyAt m2 (prv (nxt c))); rw [prv_nxt])) $$ [HO Hx0a Hc00 Hm2 Ht1 Hr7]
  · isplitr; · iexact HE
    isplitl [HO]; · iexact HO
    isplitl [Hx0a]; · iexact Hx0a
    isplitl [Hc00]; · iexact Hc00
    isplitl [Hm2]; · iexact Hm2
    isplitl [Ht1]; · iexact Ht1
    iexact Hr7
  iintro ⟨HO, Hk1⟩
  sl_exec
  iapply (wp_copy m K c 7 (dev4_eq c) 3 9 (by decide) (by decide) rfl rfl (src := x0) (dst := c10) (sS := (2 : Fin 26)) (sem := (8 : Fin 26)) rfl rfl rfl
      fullShare.right.right (xh m c 0) iprop(emp) .rfl
      (by show _ ⊢ holds c10 (prv c) fullShare (xh m (nxt (prv c)) 0); rw [nxt_prv]; iintro ⟨H, -⟩; iexact H)) $$ [HO Hx0b Hc10 Ht3 Hr9]
  · isplitr; · iexact HE
    isplitl [HO]; · iexact HO
    isplitl [Hx0b]; · iexact Hx0b
    isplitl [Hc10]; · iexact Hc10
    isplitr; · iempintro
    isplitl [Ht3]; · iexact Ht3
    iexact Hr9
  iintro ⟨HO, Hk3⟩
  ihave HO := (owe_open (F := F) c 7) $$ HO
  icases HO with ⟨%W7, HO⟩
  ihave #HW7 := (mayWaits_own (F := F) c 7 (by decide)) $$ HL
  sl_exec
  ihave Hx := (to_holds x1 c fullShare _ (xh m c 1) (by
    unfold segB.sl.Hx_w4 segB.sl.Hx_w3
    exact x_content m c 512 inb_S1024x4096_S512x4096_512_0 _ _ (by decide) fx _ _ (congrArg rnd (readAt_write_full _ _ _ _)) (congrArg rnd (readAt_write_full _ _ _ _)))) $$ Hx
  ihave Hx := ((holds_halves x1 c fullShare (xh m c 1)).1) $$ Hx
  icases Hx with ⟨Hx1, Hx1r⟩
  ihave Hx1r := ((holds_halves x1 c fullShare.right (xh m c 1)).1) $$ Hx1r
  icases Hx1r with ⟨Hx1a, Hx1b⟩
  ihave HO := (owe_intro (F := F) c 7 _) $$ HO
  iapply (wp_copy m K c 6 (dev5_eq c) 2 8 (by decide) (by decide) rfl rfl (src := x1) (dst := c01) (sS := (1 : Fin 26)) (sem := (7 : Fin 26)) rfl rfl rfl
      fullShare.right.left (xh m c 1) iprop(emp) .rfl
      (by show _ ⊢ holds c01 (nxt c) fullShare (xh m (prv (nxt c)) 1); rw [prv_nxt]; iintro ⟨H, -⟩; iexact H)) $$ [HO Hx1a Hc01 Ht2 Hr8]
  · isplitr; · iexact HE
    isplitl [HO]; · iexact HO
    isplitl [Hx1a]; · iexact Hx1a
    isplitl [Hc01]; · iexact Hc01
    isplitr; · iempintro
    isplitl [Ht2]; · iexact Ht2
    iexact Hr8
  iintro ⟨HO, Hk2⟩
  sl_exec
  iapply (wp_copy m K c 5 (dev6_eq c) 4 10 (by decide) (by decide) rfl rfl (src := x1) (dst := c11) (sS := (3 : Fin 26)) (sem := (9 : Fin 26)) rfl rfl rfl
      fullShare.right.right (xh m c 1) iprop(emp) .rfl
      (by show _ ⊢ holds c11 (prv c) fullShare (xh m (nxt (prv c)) 1); rw [nxt_prv]; iintro ⟨H, -⟩; iexact H)) $$ [HO Hx1b Hc11 Ht4 Hr10]
  · isplitr; · iexact HE
    isplitl [HO]; · iexact HO
    isplitl [Hx1b]; · iexact Hx1b
    isplitl [Hc11]; · iexact Hc11
    isplitr; · iempintro
    isplitl [Ht4]; · iexact Ht4
    iexact Hr10
  iintro ⟨HO, Hk4⟩
  ihave HO := (owe_open (F := F) c 5) $$ HO
  icases HO with ⟨%W5, HO⟩
  ihave #HW5 := (mayWaits_own (F := F) c 5 (by decide)) $$ HL
  sl_exec
  have hw : ∀ fw : wM.view.ty.Contents (Elt F), wM.view.read (Elt F) (wM.view.writes (Elt F) fw (segB.sl.Hw_8 m c f0 f1)) = wbf m c := by
    intro fw
    refine w_list m c fw (h0 := by decide) (h1 := by decide) (h2 := by decide) (h3 := by decide) (h4 := by decide) (h5 := by decide) (h6 := by decide) (h7 := by decide) ?_
    unfold segB.sl.Hw_8 segB.sl.r segB.sl.v193 segB.sl.v185 segB.sl.v174 segB.sl.v163 segB.sl.v152 segB.sl.v141
    refine congrArg₂ List.cons (tileW_eq m f1M.view _ c 3584 _ _) (congrArg₂ List.cons (tileW_eq m f0M.view _ c 3072 _ _) (congrArg₂ List.cons (tileW_eq m f1M.view _ c 2560 _ _)
      (congrArg₂ List.cons (tileW_eq m f0M.view _ c 2048 _ _) (congrArg₂ List.cons (tileW_eq m f1M.view _ c 1536 _ _) (congrArg₂ List.cons (tileW_eq m f0M.view _ c 1024 _ _)
      (congrArg₂ List.cons (tileW_eq m f1M.view _ c 512 _ _) (congrArg₂ List.cons (tileW_eq m f0M.view _ c 0 _ _) rfl)))))))
  have hv : segB.sl.v199 m c f0 f1 = wbf m c := by
    unfold segB.sl.v199
    exact (View.readAt_full _ _ _).trans (hw _)
  have h1 : segB.sl.r_1 m c f0 f1 = mx1 m c := by
    unfold segB.sl.r_1 mx1
    rw [hv]
    exact congrArg₂ (fun a b => k0_pay17 a (wbf m c) b (wbf m c)) (Memref.readAt_slice_rep xM _ rfl _ _) (Memref.readAt_slice_rep xM _ rfl _ _)
  have h2 : segB.sl.r_2 m c f0 f1 = k0_pay18 (xh m c 1) (wbf m c) := by
    unfold segB.sl.r_2
    rw [hv]
    exact congrArg (fun a => k0_pay18 a (wbf m c)) (Memref.readAt_slice_rep xM _ rfl _ _)
  have h3 : segB.sl.dma28 m c f0 f1 fy = yb m c c 0 := by
    unfold segB.sl.dma28 segB.sl.Hy0_w9
    rw [hv]
    refine (congrArg (fun a => y0.view.read (Elt F) ((yM.access _).write (Elt F) fy (k0_pay15 a (wbf m c)) Finset.univ)) (Memref.readAt_slice_rep xM _ rfl _ _)).trans ?_
    exact slot_write yM ![0, 0, 0] S1x512x2048.size inb_S3x512x2048_S1x512x2048_0_0_0 _ fy (yb m c c 0) _
  rw [h1, h2]
  ihave Hw := (to_rep wM (View.set_whole _) c _ (wbf m c) (hw fw)) $$ Hw
  ihave HO := (owe_intro (F := F) c 5 _) $$ HO
  iapply Hk
  unfold postB
  isplitl [HO]; · iexact HO
  isplitl [Ha]; · iexact Ha
  isplitl [Hb]; · iexact Hb
  isplitl [Hx0]; · iexact Hx0
  isplitl [Hx1]; · iexact Hx1
  isplitl [Hw]; · iexact Hw
  isplitl [Hf0]; · iapply (to_anyW f0M c); iexact Hf0
  isplitl [Hf1]; · iapply (to_anyW f1M c); iexact Hf1
  isplitl [Hc21]; · iexact Hc21
  isplitl [Hm3]; · iexact Hm3
  isplitl [Hc20]; · iexact Hc20
  isplitl [Hm1]; · iexact Hm1
  isplitl [Hk1]; · iexact Hk1
  isplitl [Hk2]; · iexact Hk2
  isplitl [Hk3]; · iexact Hk3
  isplitl [Hk4]; · iexact Hk4
  isplitl [Hs0]; · iexact Hs0
  isplitl [Hs1]; · iexact Hs1
  iapply (to_outF c 14 (bOwn0 c) (yb m c c 0) y0 fo _ (segB.sl.Hy0_w9 m c f0 f1 fy) h3 h3); iexact Hs2

end Cert.MeshProof

end
-- ==== Proof.SegC.lean ====
/-
The third stage: the neighbours' rows come in, the left one's first half goes on to the right, and their blocks of the
product are computed.
-/
module

public import proofs.«01_k».proof.Proof.Content

@[expose] public section

set_option maxRecDepth 16384

noncomputable section

namespace Cert.MeshProof

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Bool (Elt F) ℕ UU ℕ

variable (m : (ℓ : Loc nD τ sig) → Buf (Elt F) ℓ)

/-- What the third stage starts from; -/
def preC (c : Dev nD) : sProp 𝕄 :=
  iprop(owe c 5 ∗ atW wM c (wM.view.rep (wbf m c)) ∗ anyAt y1 c ∗ anyAt s0 c ∗ anyAt s1 c ∗ anyAt (bOwn1 c) c ∗ anyAt (bPrv0 c) c ∗ anyAt (bNxt0 c) c ∗ anyAt (bPrv1 c) c
      ∗ anyAt c20 (nxt c) ∗ credit c 7 N ∗ credit c 8 N ∗ credit c 9 N ∗ credit c 10 N ∗ todo c 7 ∗ todo c 8 ∗ todo c 9 ∗ todo c 10
      ∗ tok c 5 false ∗ tok (nxt c) 11 false ∗ zs c 12 ∗ zs c 13 ∗ zs c 15 ∗ outF c 14 (bOwn0 c) (yb m c c 0) y0)
/-- and what it leaves. -/
def postC (c : Dev nD) : sProp 𝕄 :=
  iprop(owe c 4 ∗ atW wM c (wM.view.rep (wbf m c)) ∗ anyAt s0 c ∗ anyAt s1 c ∗ holds c00 c fullShare.left (xh m (prv c) 0) ∗ holds c01 c fullShare (xh m (prv c) 1)
      ∗ holds c10 c fullShare (xh m (nxt c) 0) ∗ holds c11 c fullShare (xh m (nxt c) 1) ∗ credit c 5 N ∗ done c 7 ∗ done c 8 ∗ done c 9 ∗ done c 10
      ∗ holds (bOwn0 c) c fullShare (yb m c c 0) ∗ holds (bOwn1 c) c fullShare (yb m c c 1) ∗ holds (bPrv0 c) c fullShare (yb m c (prv c) 0)
      ∗ zs c 12 ∗ zs c 13 ∗ outF c 14 (bPrv1 c) (yb m c (prv c) 1) y0 ∗ outF c 15 (bNxt0 c) (yb m c (nxt c) 0) y1)

set_option maxHeartbeats 8000000 in
set_option sl_exec.dmaWindow true in
theorem segC (K : Dev nD × Fin 19 → ℕ) (c : Dev nD) {α : Type} (Q : α → sProp 𝕄) (v2 v13 v24 : BitVec 32)
    (kt : F .f32 → Prog (TpuEff nD τ sig (Elt F) Λ₀ .tc) α) :
    iprop(env m K ∗ preC m c ∗ (postC m c -∗ wpK c (kt (mx4 m c)) Q))
      ⊢ wpK c (onBufs (k0_part9 (F := F)) c v2 v24 (k0_pay18 (xh m c 1) (wbf m c)) >>= fun _ => onBufs (k0_part10 (F := F)) c (mx1 m c) >>= fun r =>
          onBufs (k0_part11 (F := F)) c v13 r.2 >>= fun _ => onBufs (k0_part12 (F := F)) c v24 r.1 >>= fun v321 => onBufs (k0_part13 (F := F)) c v321 >>= fun r' =>
          onBufs (k0_part14 (F := F)) c v13 r'.1 >>= fun _ => kt r'.2) Q := by
  unfold preC owe wpK onBufs
  iintro ⟨#HE, ⟨⟨%W, HO⟩, Hw, Hy1, Hs0, Hs1, Ho1, Hp0, Hn0, Hp1, Hc20, Hk7, Hk8, Hk9, Hk10, Ha7, Ha8, Ha9, Ha10, Ht5, Hr11, Hz0, Hz1, Hz3, Hf2⟩, Hk⟩
  ihave #HL := (env_lev m K) $$ HE
  ihave #HW5 := (mayWaits_own (F := F) c 5 (by decide)) $$ HL
  ihave Hy1 := (any_open y1 c) $$ Hy1
  icases Hy1 with ⟨%fy, Hy1⟩
  ihave Hs0 := (any_open s0 c) $$ Hs0
  icases Hs0 with ⟨%fs0, Hs0⟩
  ihave Hs1 := (any_open s1 c) $$ Hs1
  icases Hs1 with ⟨%fs1, Hs1⟩
  ihave Ho1 := (any_open (bOwn1 c) c) $$ Ho1
  icases Ho1 with ⟨%fo1, Ho1⟩
  ihave Hp0 := (any_open (bPrv0 c) c) $$ Hp0
  icases Hp0 with ⟨%fp0, Hp0⟩
  ihave Hn0 := (any_open (bNxt0 c) c) $$ Hn0
  icases Hn0 with ⟨%fn0, Hn0⟩
  ihave Hp1 := (any_open (bPrv1 c) c) $$ Hp1
  icases Hp1 with ⟨%fp1, Hp1⟩
  sl_exec
  ihave HO := (owe_intro (F := F) c 5 _) $$ HO
  iapply (wp_wait_cell m K c 5 7 (by decide) (above_of 2 5 (by decide) (by decide +revert)) (sem := (6 : Fin 26)) (dst := c00) rfl rfl) $$ [HO Hk7 Ha7]
  · isplitr; · iexact HE
    isplitl [HO]; · iexact HO
    isplitl [Hk7]; · iexact Hk7
    iexact Ha7
  iintro ⟨HO, Ha7, Hpay⟩

  sl_exec
  ihave Hpay := (show pay m c false (7 : Fin 19).val ⊢ iprop(holds c00 c fullShare (xh m (prv c) 0) ∗ anyAt m2 (prv c)) from .rfl) $$ Hpay
  icases Hpay with ⟨Hc00, Hm2⟩
  ihave Hc00 := ((holds_halves c00 c fullShare (xh m (prv c) 0)).1) $$ Hc00
  icases Hc00 with ⟨Hc00, Hc00r⟩
  iapply (wp_copy m K c 4 (dev7_eq c) 5 11 (by decide) (by decide) rfl rfl (src := c00) (dst := c20) (sS := (4 : Fin 26)) (sem := (10 : Fin 26)) rfl rfl rfl
      fullShare.right (xh m (prv c) 0) (anyAt m2 (prv c)) .rfl
      (by show _ ⊢ iprop(holds c20 (nxt c) fullShare (xh m (nxt (nxt (nxt c))) 0) ∗ anyAt m2 (nxt (nxt (nxt c)))); rw [nnn])) $$ [HO Hc00r Hc20 Hm2 Ht5 Hr11]
  · isplitr; · iexact HE
    isplitl [HO]; · iexact HO
    isplitl [Hc00r]; · iexact Hc00r
    isplitl [Hc20]; · iexact Hc20
    isplitl [Hm2]; · iexact Hm2
    isplitl [Ht5]; · iexact Ht5
    iexact Hr11
  iintro ⟨HO, Hk5⟩
  ihave HO := (owe_open (F := F) c 4) $$ HO
  icases HO with ⟨%W4, HO⟩
  ihave #HW4 := (mayWaits_own (F := F) c 4 (by decide)) $$ HL
  sl_exec
  ihave HO := (owe_intro (F := F) c 4 _) $$ HO
  iapply (wp_wait_cell m K c 4 9 (by decide) (above_of 2 4 (by decide) (by decide +revert)) (sem := (8 : Fin 26)) (dst := c10) rfl rfl) $$ [HO Hk9 Ha9]
  · isplitr; · iexact HE
    isplitl [HO]; · iexact HO
    isplitl [Hk9]; · iexact Hk9
    iexact Ha9
  iintro ⟨HO, Ha9, Hpay⟩

  ihave Hc10 := (show pay m c false (9 : Fin 19).val ⊢ holds c10 c fullShare (xh m (nxt c) 0) from .rfl) $$ Hpay
  ihave HO := (owe_open (F := F) c 4) $$ HO
  icases HO with ⟨%W4, HO⟩
  sl_exec
  ihave HO := (owe_intro (F := F) c 4 _) $$ HO
  iapply (wp_wait_cell m K c 4 8 (by decide) (above_of 2 4 (by decide) (by decide +revert)) (sem := (7 : Fin 26)) (dst := c01) rfl rfl) $$ [HO Hk8 Ha8]
  · isplitr; · iexact HE
    isplitl [HO]; · iexact HO
    isplitl [Hk8]; · iexact Hk8
    iexact Ha8
  iintro ⟨HO, Ha8, Hpay⟩

  ihave Hc01 := (show pay m c false (8 : Fin 19).val ⊢ holds c01 c fullShare (xh m (prv c) 1) from .rfl) $$ Hpay
  ihave HO := (owe_open (F := F) c 4) $$ HO
  icases HO with ⟨%W4, HO⟩
  sl_exec
  ihave HO := (owe_intro (F := F) c 4 _) $$ HO
  iapply (wp_wait_cell m K c 4 10 (by decide) (above_of 2 4 (by decide) (by decide +revert)) (sem := (9 : Fin 26)) (dst := c11) rfl rfl) $$ [HO Hk10 Ha10]
  · isplitr; · iexact HE
    isplitl [HO]; · iexact HO
    isplitl [Hk10]; · iexact Hk10
    iexact Ha10
  iintro ⟨HO, Ha10, Hpay⟩

  ihave Hc11 := (show pay m c false (10 : Fin 19).val ⊢ holds c11 c fullShare (xh m (nxt c) 1) from .rfl) $$ Hpay
  sl_exec
  have ev : View.readAt (Elt F) wM.view (Rect.unit ![0, 0] S4096x2048.size inb_S4096x2048_S4096x2048_0_0).toLoadRect (wM.view.rep (wbf m c)) = wbf m c :=
    (View.readAt_full _ _ _).trans (View.read_rep _ _)
  have e0 : segC.sl.dma0 m c = xh m (prv c) 0 := by unfold segC.sl.dma0; exact View.read_rep _ _
  have e1 : segC.sl.dma0_1 m c = xh m (nxt c) 0 := by unfold segC.sl.dma0_1; exact View.read_rep _ _
  have e2 : segC.sl.dma0_2 m c = xh m (prv c) 1 := by unfold segC.sl.dma0_2; exact View.read_rep _ _
  have l0 := slot_load sM _ S1x512x4096.size inb_S2x512x4096_S1x512x4096_0_0_0 _ _ (xh m (prv c) 0) squeezes_S1x512x4096_S512x4096.numel_eq.symm (read_head s0 s0.view.junk _ _ [] e0)
  have l1 := slot_load sM _ S1x512x4096.size inb_S2x512x4096_S1x512x4096_1_0_0 _ _ (xh m (nxt c) 0) squeezes_S1x512x4096_S512x4096.numel_eq.symm (read_head s1 s1.view.junk _ _ [] e1)
  have l2 := slot_load sM _ S1x512x4096.size inb_S2x512x4096_S1x512x4096_0_0_0 _ _ (xh m (prv c) 1) squeezes_S1x512x4096_S512x4096.numel_eq.symm (read_head s0 s0.view.junk _ _ [⟨Rect.whole S512x4096, segC.sl.dma0 m c⟩] e2)
  have v3 : segC.sl.v357 m c = up (xh m (prv c) 1) := by unfold segC.sl.v357; exact l2
  have r4 : segC.sl.r_4 m c = mx4 m c := by
    unfold segC.sl.r_4 segC.sl.r_2 segC.sl.r
    rw [ev, v3, l1, l0]
    rfl
  have o1 : segC.sl.dma2 m c fy = yb m c c 1 := by
    unfold segC.sl.dma2 segC.sl.Hy1_w1
    exact slot_write yM ![1, 0, 0] S1x512x2048.size inb_S3x512x2048_S1x512x2048_1_0_0 _ fy (yb m c c 1) _
  have o2 : segC.sl.dma4 m c = yb m c (prv c) 0 := by
    unfold segC.sl.dma4 segC.sl.Hf2_src_w1 segC.sl.r_1
    rw [ev, l0]
    refine (congrArg (fun a => y0.view.read (Elt F) ((yM.access _).write (Elt F) _ a Finset.univ)) (store20 m c _ _)).trans ?_
    exact slot_write yM ![0, 0, 0] S1x512x2048.size inb_S3x512x2048_S1x512x2048_0_0_0 _ _ (yb m c (prv c) 0) _
  have o3 : segC.sl.dma4_1 m c fy = yb m c (nxt c) 0 := by
    unfold segC.sl.dma4_1 segC.sl.Hy1_w1_1
    rw [ev, l1]
    refine (congrArg (fun a => y1.view.read (Elt F) ((yM.access _).write (Elt F) _ a Finset.univ)) (store20 m c _ _)).trans ?_
    exact slot_write yM ![1, 0, 0] S1x512x2048.size inb_S3x512x2048_S1x512x2048_1_0_0 _ _ (yb m c (nxt c) 0) _
  have o4 : segC.sl.dma4_2 m c = yb m c (prv c) 1 := by
    unfold segC.sl.dma4_2 segC.sl.Hf2_src_w1_1 segC.sl.r_3
    rw [ev, v3]
    refine (congrArg (fun a => y0.view.read (Elt F) ((yM.access _).write (Elt F) _ a Finset.univ)) (store20 m c _ _)).trans ?_
    exact slot_write yM ![0, 0, 0] S1x512x2048.size inb_S3x512x2048_S1x512x2048_0_0_0 _ _ (yb m c (prv c) 1) _
  rw [r4]
  iapply Hk
  unfold postC
  isplitl [HO]; · iexact HO
  isplitl [Hw]; · iexact Hw
  isplitl [Hs0]; · iapply (to_any s0 c _); iexact Hs0
  isplitl [Hs1]; · iapply (to_any s1 c _); iexact Hs1
  isplitl [Hc00]; · iexact Hc00
  isplitl [Hc01]; · iexact Hc01
  isplitl [Hc10]; · iexact Hc10
  isplitl [Hc11]; · iexact Hc11
  isplitl [Hk5]; · iexact Hk5
  isplitl [Ha7]; · iexact Ha7
  isplitl [Ha8]; · iexact Ha8
  isplitl [Ha9]; · iexact Ha9
  isplitl [Ha10]; · iexact Ha10
  isplitl [Hf2_dst]; · iexact Hf2_dst
  isplitl [Ho1]; · iapply (to_holds (bOwn1 c) c fullShare _ (yb m c c 1) ((View.read_writes_whole _ _ _).trans o1)); iexact Ho1
  isplitl [Hp0]; · iapply (to_holds (bPrv0 c) c fullShare _ (yb m c (prv c) 0) ((View.read_writes_whole _ _ _).trans o2)); iexact Hp0
  isplitl [Hz0]; · iexact Hz0
  isplitl [Hz1]; · iexact Hz1
  isplitl [Hf2]; · iapply (to_outF c 14 (bPrv1 c) (yb m c (prv c) 1) y0 fp1 _ (segC.sl.Hf2_src_w1_1 m c) o4 o4); iexact Hf2
  iapply (to_outF c 15 (bNxt0 c) (yb m c (nxt c) 0) y1 fn0 _ (segC.sl.Hy1_w1_1 m c fy) o3 o3); iexact Hz3

end Cert.MeshProof

end
-- ==== Proof.SegD.lean ====
/-
The fourth stage: the right neighbour's second half goes on to the left, the opposite device's rows come in, and the rest of
the product is computed.
-/
module

public import proofs.«01_k».proof.Proof.Content

@[expose] public section

set_option maxRecDepth 16384

noncomputable section

namespace Cert.MeshProof

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Bool (Elt F) ℕ UU ℕ

variable (m : (ℓ : Loc nD τ sig) → Buf (Elt F) ℓ)

/-- What the fourth stage starts from; -/
def preD (c : Dev nD) : sProp 𝕄 :=
  iprop(owe c 4 ∗ atW wM c (wM.view.rep (wbf m c)) ∗ anyAt s0 c ∗ anyAt s1 c ∗ anyAt (bNxt1 c) c ∗ anyAt (bOpp0 c) c ∗ anyAt (bOpp1 c) c ∗ anyAt m0 c
      ∗ holds c11 c fullShare (xh m (nxt c) 1) ∗ anyAt c21 (prv c) ∗ credit c 11 N ∗ credit c 12 N ∗ todo c 11 ∗ todo c 12
      ∗ tok c 6 false ∗ tok (prv c) 12 false ∗ zs c 12 ∗ zs c 13 ∗ outF c 14 (bPrv1 c) (yb m c (prv c) 1) y0 ∗ outF c 15 (bNxt0 c) (yb m c (nxt c) 0) y1)
/-- and what it leaves. -/
def postD (c : Dev nD) : sProp 𝕄 :=
  iprop(owe c 3 ∗ atW wM c (wM.view.rep (wbf m c)) ∗ anyAt s0 c ∗ anyAt s1 c ∗ holds m0 c fullShare (am m c) ∗ holds c11 c fullShare.left (xh m (nxt c) 1)
      ∗ holds c20 c fullShare (xh m (nxt (nxt c)) 0) ∗ holds c21 c fullShare (xh m (nxt (nxt c)) 1) ∗ anyAt m2 (nxt (nxt c)) ∗ credit c 6 N ∗ done c 11 ∗ done c 12
      ∗ holds (bPrv1 c) c fullShare (yb m c (prv c) 1) ∗ holds (bNxt0 c) c fullShare (yb m c (nxt c) 0) ∗ holds (bNxt1 c) c fullShare (yb m c (nxt c) 1)
      ∗ zs c 12 ∗ zs c 13 ∗ outF c 14 (bOpp0 c) (yb m c (nxt (nxt c)) 0) y0 ∗ outF c 15 (bOpp1 c) (yb m c (nxt (nxt c)) 1) y1)

set_option maxHeartbeats 8000000 in
set_option sl_exec.dmaWindow true in
theorem segD (K : Dev nD × Fin 19 → ℕ) (c : Dev nD) {α : Type} (Q : α → sProp 𝕄) (v2 v13 v24 : BitVec 32)
    (kt : BitVec 32 → Prog (TpuEff nD τ sig (Elt F) Λ₀ .tc) α) :
    iprop(env m K ∗ preD m c ∗ (∀ v : BitVec 32, postD m c -∗ wpK c (kt v) Q))
      ⊢ wpK c (onBufs (k0_part15 (F := F)) c (mx4 m c) >>= fun r => onBufs (k0_part16 (F := F)) c v24 r.1 >>= fun _ =>
          onBufs (k0_part17 (F := F)) c v2 r.2 >>= fun r => onBufs (k0_part18 (F := F)) c v13 r.1 r.2.2 >>= fun _ =>
          onBufs (k0_part19 (F := F)) c v2 r.2.1 >>= fun r => onBufs (k0_part20 (F := F)) c v2 r.1 r.2.1 r.2.2 >>= kt) Q := by
  unfold preD owe wpK onBufs
  iintro ⟨#HE, ⟨⟨%W, HO⟩, Hw, Hs0, Hs1, Hn1, Hp0, Hp1, Hm0, Hc11, Hc21, Hk11, Hk12, Ha11, Ha12, Ht6, Hr12, Hz0, Hz1, Hf2, Hf3⟩, Hk⟩
  ihave #HL := (env_lev m K) $$ HE
  ihave #HW4 := (mayWaits_own (F := F) c 4 (by decide)) $$ HL
  ihave Hc11 := ((holds_halves c11 c fullShare (xh m (nxt c) 1)).1) $$ Hc11
  icases Hc11 with ⟨Hc11, Hc11r⟩
  ihave Hs0 := (any_open s0 c) $$ Hs0
  icases Hs0 with ⟨%fs0, Hs0⟩
  ihave Hs1 := (any_open s1 c) $$ Hs1
  icases Hs1 with ⟨%fs1, Hs1⟩
  ihave Hn1 := (any_open (bNxt1 c) c) $$ Hn1
  icases Hn1 with ⟨%fn1, Hn1⟩
  ihave Hp0 := (any_open (bOpp0 c) c) $$ Hp0
  icases Hp0 with ⟨%fp0, Hp0⟩
  ihave Hp1 := (any_open (bOpp1 c) c) $$ Hp1
  icases Hp1 with ⟨%fp1, Hp1⟩
  ihave Hm0 := (any_open m0 c) $$ Hm0
  icases Hm0 with ⟨%fm0, Hm0⟩
  sl_exec
  ihave HO := (owe_intro (F := F) c 4 _) $$ HO
  iapply (wp_copy m K c 3 (dev8_eq c) 6 12 (by decide) (by decide) rfl rfl (src := c11) (dst := c21) (sS := (5 : Fin 26)) (sem := (11 : Fin 26)) rfl rfl rfl
      fullShare.right (xh m (nxt c) 1) iprop(emp) .rfl
      (by show _ ⊢ holds c21 (prv c) fullShare (xh m (nxt (nxt (prv c))) 1); rw [nxt_prv]; iintro ⟨H, -⟩; iexact H)) $$ [HO Hc11r Hc21 Ht6 Hr12]
  · isplitr; · iexact HE
    isplitl [HO]; · iexact HO
    isplitl [Hc11r]; · iexact Hc11r
    isplitl [Hc21]; · iexact Hc21
    isplitr; · iempintro
    isplitl [Ht6]; · iexact Ht6
    iexact Hr12
  iintro ⟨HO, Hk6⟩
  ihave HO := (owe_open (F := F) c 3) $$ HO
  icases HO with ⟨%W3, HO⟩
  ihave #HW3 := (mayWaits_own (F := F) c 3 (by decide)) $$ HL
  sl_exec
  ihave HO := (owe_intro (F := F) c 3 _) $$ HO
  iapply (wp_wait_cell m K c 3 11 (by decide) (above_of 3 3 (by decide) (by decide +revert)) (sem := (10 : Fin 26)) (dst := c20) rfl rfl) $$ [HO Hk11 Ha11]
  · isplitr; · iexact HE
    isplitl [HO]; · iexact HO
    isplitl [Hk11]; · iexact Hk11
    iexact Ha11
  iintro ⟨HO, Ha11, Hpay⟩

  ihave Hpay := (show pay m c false (11 : Fin 19).val ⊢ iprop(holds c20 c fullShare (xh m (nxt (nxt c)) 0) ∗ anyAt m2 (nxt (nxt c))) from .rfl) $$ Hpay
  icases Hpay with ⟨Hc20, Hm2⟩
  ihave HO := (owe_open (F := F) c 3) $$ HO
  icases HO with ⟨%W3, HO⟩
  sl_exec
  ihave HO := (owe_intro (F := F) c 3 _) $$ HO
  iapply (wp_wait_cell m K c 3 12 (by decide) (above_of 3 3 (by decide) (by decide +revert)) (sem := (11 : Fin 26)) (dst := c21) rfl rfl) $$ [HO Hk12 Ha12]
  · isplitr; · iexact HE
    isplitl [HO]; · iexact HO
    isplitl [Hk12]; · iexact Hk12
    iexact Ha12
  iintro ⟨HO, Ha12, Hpay⟩

  ihave Hc21 := (show pay m c false (12 : Fin 19).val ⊢ holds c21 c fullShare (xh m (nxt (nxt c)) 1) from .rfl) $$ Hpay
  ihave HO := (owe_open (F := F) c 3) $$ HO
  icases HO with ⟨%W3, HO⟩
  sl_exec
  have ev : View.readAt (Elt F) wM.view (Rect.unit ![0, 0] S4096x2048.size inb_S4096x2048_S4096x2048_0_0).toLoadRect (wM.view.rep (wbf m c)) = wbf m c :=
    (View.readAt_full _ _ _).trans (View.read_rep _ _)
  have e0 : segD.sl.dma0 m c = xh m (nxt c) 1 := by unfold segD.sl.dma0; exact View.read_rep _ _
  have e1 : segD.sl.dma0_1 m c = xh m (nxt (nxt c)) 0 := by unfold segD.sl.dma0_1; exact View.read_rep _ _
  have e2 : segD.sl.dma0_2 m c = xh m (nxt (nxt c)) 1 := by unfold segD.sl.dma0_2; exact View.read_rep _ _
  have l0 := slot_load sM _ S1x512x4096.size inb_S2x512x4096_S1x512x4096_1_0_0 _ _ (xh m (nxt c) 1) squeezes_S1x512x4096_S512x4096.numel_eq.symm (read_head s1 s1.view.junk _ _ [] e0)
  have l1 := slot_load sM _ S1x512x4096.size inb_S2x512x4096_S1x512x4096_0_0_0 _ _ (xh m (nxt (nxt c)) 0) squeezes_S1x512x4096_S512x4096.numel_eq.symm (read_head s0 s0.view.junk _ _ [] e1)
  have l2 := slot_load sM _ S1x512x4096.size inb_S2x512x4096_S1x512x4096_1_0_0 _ _ (xh m (nxt (nxt c)) 1) squeezes_S1x512x4096_S512x4096.numel_eq.symm (read_head s1 s1.view.junk _ _ [⟨Rect.whole S512x4096, segD.sl.dma0 m c⟩] e2)
  have v5 : segD.sl.v515 m c = up (xh m (nxt (nxt c)) 1) := by unfold segD.sl.v515; exact l2
  have r4 : segD.sl.r_4 m c = mx7 m c := by
    unfold segD.sl.r_4 segD.sl.r_2 segD.sl.r_1
    rw [ev, v5, l1, l0]
    rfl
  have o1 : segD.sl.dma4 m c = yb m c (nxt c) 1 := by
    unfold segD.sl.dma4 segD.sl.Hf3_src_w1 segD.sl.r
    rw [ev, l0]
    refine (congrArg (fun a => y1.view.read (Elt F) ((yM.access _).write (Elt F) _ a Finset.univ)) (store20 m c _ _)).trans ?_
    exact slot_write yM ![1, 0, 0] S1x512x2048.size inb_S3x512x2048_S1x512x2048_1_0_0 _ _ (yb m c (nxt c) 1) _
  have o2 : segD.sl.dma4_1 m c = yb m c (nxt (nxt c)) 0 := by
    unfold segD.sl.dma4_1 segD.sl.Hf2_src_w1 segD.sl.v487 segD.sl.r_3
    rw [ev, l1]
    refine (congrArg (fun a => y0.view.read (Elt F) ((yM.access _).write (Elt F) _ a Finset.univ)) (store20 m c _ _)).trans ?_
    exact slot_write yM ![0, 0, 0] S1x512x2048.size inb_S3x512x2048_S1x512x2048_0_0_0 _ _ (yb m c (nxt (nxt c)) 0) _
  have o3 : segD.sl.dma4_2 m c = yb m c (nxt (nxt c)) 1 := by
    unfold segD.sl.dma4_2 segD.sl.Hf3_src_w1_1 segD.sl.r_5
    rw [ev, v5]
    refine (congrArg (fun a => y1.view.read (Elt F) ((yM.access _).write (Elt F) _ a Finset.univ)) (store20 m c _ _)).trans ?_
    exact slot_write yM ![1, 0, 0] S1x512x2048.size inb_S3x512x2048_S1x512x2048_1_0_0 _ _ (yb m c (nxt (nxt c)) 1) _
  have o4 : m0.view.read (Elt F) (segD.sl.Hm0_w2 m c fm0) = am m c := by
    unfold segD.sl.Hm0_w2
    rw [r4]
    refine (congrArg (fun a => m0.view.read (Elt F) ((mM.access _).write (Elt F) fm0 a Finset.univ)) (pay40_am m c)).trans ?_
    exact slot_write mM ![0, 0, 0] S1x8x128.size inb_S4x8x128_S1x8x128_0_0_0 _ fm0 (am m c) squeezes_S1x8x128_S8x128.numel_eq.symm
  ispecialize Hk $$ %(segD.sl.v568 v2)
  ihave HO := (owe_intro (F := F) c 3 _) $$ HO
  iapply Hk
  unfold postD
  isplitl [HO]; · iexact HO
  isplitl [Hw]; · iexact Hw
  isplitl [Hs0]; · iapply (to_any s0 c _); iexact Hs0
  isplitl [Hs1]; · iapply (to_any s1 c _); iexact Hs1
  isplitl [Hm0]; · iapply (to_holds m0 c fullShare _ (am m c) o4); iexact Hm0
  isplitl [Hc11]; · iexact Hc11
  isplitl [Hc20]; · iexact Hc20
  isplitl [Hc21]; · iexact Hc21
  isplitl [Hm2]; · iexact Hm2
  isplitl [Hk6]; · iexact Hk6
  isplitl [Ha11]; · iexact Ha11
  isplitl [Ha12]; · iexact Ha12
  isplitl [Hf2_dst]; · iexact Hf2_dst
  isplitl [Hf3_dst]; · iexact Hf3_dst
  isplitl [Hn1]; · iapply (to_holds (bNxt1 c) c fullShare _ (yb m c (nxt c) 1) ((View.read_writes_whole _ _ _).trans o1)); iexact Hn1
  isplitl [Hz0]; · iexact Hz0
  isplitl [Hz1]; · iexact Hz1
  isplitl [Hf2]; · iapply (to_outF c 14 (bOpp0 c) (yb m c (nxt (nxt c)) 0) y0 fp0 _ (segD.sl.Hf2_src_w1 m c) o2 o2); iexact Hf2
  iapply (to_outF c 15 (bOpp1 c) (yb m c (nxt (nxt c)) 1) y1 fp1 _ (segD.sl.Hf3_src_w1_1 m c) o3 o3); iexact Hf3

end Cert.MeshProof

end
-- ==== Proof.Pieces.lean ====
/-
The buffers cut into the windows the kernel works on, and put together again.
-/
module

public import proofs.«01_k».proof.Proof.Content

@[expose] public section

set_option maxRecDepth 16384

noncomputable section

namespace Cert.MeshProof

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Bool (Elt F) ℕ UU ℕ

/-! ## Pieces of a buffer, told apart by a key -/

theorem big2 (Φ : Fin 2 → sProp 𝕄) : bigSep Finset.univ Φ = iprop(Φ 0 ∗ Φ 1) := bigSep_univ_eq_bigSepL [0, 1] (by decide) (by decide) Φ
theorem big3 (Φ : Fin 3 → sProp 𝕄) : bigSep Finset.univ Φ = iprop(Φ 0 ∗ Φ 1 ∗ Φ 2) := bigSep_univ_eq_bigSepL [0, 1, 2] (by decide) (by decide) Φ
theorem big4 (Φ : Fin 4 → sProp 𝕄) : bigSep Finset.univ Φ = iprop(Φ 0 ∗ Φ 1 ∗ Φ 2 ∗ Φ 3) := bigSep_univ_eq_bigSepL [0, 1, 2, 3] (by decide) (by decide) Φ
theorem big6 (Φ : Fin 6 → sProp 𝕄) : bigSep Finset.univ Φ = iprop(Φ 0 ∗ Φ 1 ∗ Φ 2 ∗ Φ 3 ∗ Φ 4 ∗ Φ 5) := bigSep_univ_eq_bigSepL [0, 1, 2, 3, 4, 5] (by decide) (by decide) Φ
theorem big8 (Φ : Fin 8 → sProp 𝕄) : bigSep Finset.univ Φ = iprop(Φ 0 ∗ Φ 1 ∗ Φ 2 ∗ Φ 3 ∗ Φ 4 ∗ Φ 5 ∗ Φ 6 ∗ Φ 7) := bigSep_univ_eq_bigSepL [0, 1, 2, 3, 4, 5, 6, 7] (by decide) (by decide) Φ

section
variable {ℓ : Loc nD τ sig} {k : ℕ} {𝕂 : Fin k → Finset (Idx ℓ)} (key : Idx ℓ → ℕ) (hb : ∀ i, key i < k) (hK : ∀ t i, i ∈ 𝕂 t ↔ key i = t.val)
include hb hK
theorem cover_of : (Finset.univ : Finset (Fin k)).biUnion 𝕂 = Finset.univ := by
  ext i
  simp only [Finset.mem_biUnion, Finset.mem_univ, true_and, iff_true]
  exact ⟨⟨key i, hb i⟩, (hK _ i).mpr rfl⟩
omit hb in
theorem apart_of : ∀ t ∈ (Finset.univ : Finset (Fin k)), ∀ t' ∈ (Finset.univ : Finset (Fin k)), t ≠ t' → Disjoint (𝕂 t) (𝕂 t') := fun t _ t' _ hne =>
  Finset.disjoint_left.mpr fun i hi hi' => hne (Fin.ext (((hK t i).mp hi).symm.trans ((hK t' i).mp hi')))
theorem pieces_of {q : PosShare TreeShare} {f : Buf (Elt F) ℓ} : (ℓ ↦[Finset.univ]{q} f : sProp 𝕄) = bigSep Finset.univ fun t => ℓ ↦[𝕂 t]{q} f := by
  rw [← cover_of key hb hK]
  exact pointsTo_biUnion _ _ (apart_of key hK)
theorem join_of {q : PosShare TreeShare} (fs : Fin k → Buf (Elt F) ℓ) (f₀ : Buf (Elt F) ℓ) :
    bigSep Finset.univ (fun t => ℓ ↦[𝕂 t]{q} fs t) ⊢ (iprop(∃ g : Buf (Elt F) ℓ, ℓ ↦[Finset.univ]{q} g) : sProp 𝕄) := by
  refine (pointsTo_biUnion_join _ _ fs f₀ (apart_of key hK)).trans ?_
  rw [cover_of key hb hK]
  iintro ⟨%g, -, H⟩
  iexists g
  iexact H
end

/-- The elements of a box of a whole buffer, and of the same box with its unit axis dropped. -/
theorem mem_slice (b : Ref sig .tc) (o size : Fin b.ty.shape.rank → ℕ) (h) (i : b.ty.shape.Idx) :
    i ∈ ((Memref.whole b).slice (Rect.unit (s := b.ty.shape) o size h) (fun _ => rfl)).view.set ↔ ∀ a, o a ≤ (i a).val ∧ (i a).val < o a + size a := by
  rw [show ((Memref.whole b).slice (Rect.unit (s := b.ty.shape) o size h) (fun _ => rfl)).view.set = (Rect.unit (s := b.ty.shape) o size h).set from View.set_slice_whole b _]
  exact Rect.mem_set_unit
theorem mem_slot (b : Ref sig .tc) (o size : Fin b.ty.shape.rank → ℕ) (h) (s : Shape) (hs : (Rect.unit (s := b.ty.shape) o size h).shape.Squeezes s) (i : b.ty.shape.Idx) :
    i ∈ (((Memref.whole b).slice (Rect.unit (s := b.ty.shape) o size h) (fun _ => rfl)).squeeze s hs).view.set ↔ ∀ a, o a ≤ (i a).val ∧ (i a).val < o a + size a :=
  (Iff.of_eq (congrArg (i ∈ ·) (View.set_reshape _ _))).trans (mem_slice b o size h i)

/-- A box of 512 rows and all columns is its rows, -/
theorem rows_iff {C : ℕ} (i0 i1 r : ℕ) (h1 : i1 < C) : (∀ a : Fin 2, (![r, 0] : Fin 2 → ℕ) a ≤ (![i0, i1] : Fin 2 → ℕ) a ∧ (![i0, i1] : Fin 2 → ℕ) a < (![r, 0] : Fin 2 → ℕ) a + (![512, C] : Fin 2 → ℕ) a) ↔ r ≤ i0 ∧ i0 < r + 512 := by
  rw [Fin.forall_fin_two]
  exact ⟨fun h => h.1, fun h => ⟨h, Nat.zero_le _, by show i1 < 0 + C; omega⟩⟩
/-- a slot of a buffer its leading index, and a half-slot its leading index and its rows. -/
theorem slot_iff {B C : ℕ} (i0 i1 i2 k r : ℕ) (h2 : i2 < C) : (∀ a : Fin 3, (![k, r, 0] : Fin 3 → ℕ) a ≤ (![i0, i1, i2] : Fin 3 → ℕ) a ∧ (![i0, i1, i2] : Fin 3 → ℕ) a < (![k, r, 0] : Fin 3 → ℕ) a + (![1, B, C] : Fin 3 → ℕ) a) ↔ i0 = k ∧ r ≤ i1 ∧ i1 < r + B := by
  refine ⟨fun h => ?_, fun h a => ?_⟩
  · have a0 : k ≤ i0 ∧ i0 < k + 1 := h (0 : Fin 3)
    have a1 : r ≤ i1 ∧ i1 < r + B := h (1 : Fin 3)
    omega
  · fin_cases a
    · exact ⟨by show k ≤ i0; omega, by show i0 < k + 1; omega⟩
    · exact h.2
    · exact ⟨Nat.zero_le _, by show i2 < 0 + C; omega⟩

/-- What a window reads, it may be held at. -/
theorem of_holds {sp : Space} {s : Shape} {e : EltTy} (M : Memref sig .tc sp s e) (c : Dev nD) (q : PosShare TreeShare)
    (g : Buf (Elt F) (M.view.loc (c : Thread nD τ))) (v : s.Idx → Elt F e) (h : M.view.read (Elt F) g = v) :
    (holds M c q v : sProp 𝕄) ⊢ M.view.loc (c : Thread nD τ) ↦[M.view.set]{q} g := by
  subst h; exact Entails.of_eq (pointsTo_rep (c : Thread nD τ) M g q).symm

/-- In particular of each buffer: -/
theorem mem_x (r : ℕ) (h) (i : S1024x4096.Idx) : i ∈ (xM.slice (Rect.unit (s := S1024x4096) ![r, 0] S512x4096.size h) (fun _ => rfl)).view.set ↔ r ≤ (i (0 : Fin 2)).val ∧ (i (0 : Fin 2)).val < r + 512 := by
  have h1 : (i (1 : Fin 2)).val < 4096 := (i (1 : Fin 2)).isLt
  refine (mem_slice cc0_scratch0 ![r, 0] S512x4096.size h i).trans (Iff.trans ?_ (rows_iff _ _ r h1))
  exact ⟨fun H a => by fin_cases a <;> [exact H (0 : Fin 2); exact H (1 : Fin 2)], fun H a => by fin_cases a <;> [exact H (0 : Fin 2); exact H (1 : Fin 2)]⟩
theorem mem_o (r : ℕ) (h) (i : S4096x2048.Idx) : i ∈ (blk ![r, 0] h).view.set ↔ r ≤ (i (0 : Fin 2)).val ∧ (i (0 : Fin 2)).val < r + 512 := by
  have h1 : (i (1 : Fin 2)).val < 2048 := (i (1 : Fin 2)).isLt
  refine (mem_slice main_v1_0 ![r, 0] S512x2048.size h i).trans (Iff.trans ?_ (rows_iff _ _ r h1))
  exact ⟨fun H a => by fin_cases a <;> [exact H (0 : Fin 2); exact H (1 : Fin 2)], fun H a => by fin_cases a <;> [exact H (0 : Fin 2); exact H (1 : Fin 2)]⟩
theorem mem_s (k r : ℕ) (h) (i : S2x512x4096.Idx) : i ∈ ((sM.slice (Rect.unit (s := S2x512x4096) ![k, r, 0] S1x512x4096.size h) (fun _ => rfl)).squeeze S512x4096 squeezes_S1x512x4096_S512x4096).view.set ↔ (i (0 : Fin 3)).val = k ∧ r ≤ (i (1 : Fin 3)).val ∧ (i (1 : Fin 3)).val < r + 512 := by
  have h2 : (i (2 : Fin 3)).val < 4096 := (i (2 : Fin 3)).isLt
  refine (mem_slot cc0_scratch2 ![k, r, 0] S1x512x4096.size h _ _ i).trans (Iff.trans ?_ (slot_iff _ _ _ k r h2))
  exact ⟨fun H a => by fin_cases a <;> [exact H (0 : Fin 3); exact H (1 : Fin 3); exact H (2 : Fin 3)], fun H a => by fin_cases a <;> [exact H (0 : Fin 3); exact H (1 : Fin 3); exact H (2 : Fin 3)]⟩
theorem mem_y (k r : ℕ) (h) (i : S3x512x2048.Idx) : i ∈ ((yM.slice (Rect.unit (s := S3x512x2048) ![k, r, 0] S1x512x2048.size h) (fun _ => rfl)).squeeze S512x2048 squeezes_S1x512x2048_S512x2048).view.set ↔ (i (0 : Fin 3)).val = k ∧ r ≤ (i (1 : Fin 3)).val ∧ (i (1 : Fin 3)).val < r + 512 := by
  have h2 : (i (2 : Fin 3)).val < 2048 := (i (2 : Fin 3)).isLt
  refine (mem_slot cc0_scratch5 ![k, r, 0] S1x512x2048.size h _ _ i).trans (Iff.trans ?_ (slot_iff _ _ _ k r h2))
  exact ⟨fun H a => by fin_cases a <;> [exact H (0 : Fin 3); exact H (1 : Fin 3); exact H (2 : Fin 3)], fun H a => by fin_cases a <;> [exact H (0 : Fin 3); exact H (1 : Fin 3); exact H (2 : Fin 3)]⟩
theorem mem_m (k r : ℕ) (h) (i : S4x8x128.Idx) : i ∈ ((mM.slice (Rect.unit (s := S4x8x128) ![k, r, 0] S1x8x128.size h) (fun _ => rfl)).squeeze S8x128 squeezes_S1x8x128_S8x128).view.set ↔ (i (0 : Fin 3)).val = k ∧ r ≤ (i (1 : Fin 3)).val ∧ (i (1 : Fin 3)).val < r + 8 := by
  have h2 : (i (2 : Fin 3)).val < 128 := (i (2 : Fin 3)).isLt
  refine (mem_slot cc0_scratch9 ![k, r, 0] S1x8x128.size h _ _ i).trans (Iff.trans ?_ (slot_iff _ _ _ k r h2))
  exact ⟨fun H a => by fin_cases a <;> [exact H (0 : Fin 3); exact H (1 : Fin 3); exact H (2 : Fin 3)], fun H a => by fin_cases a <;> [exact H (0 : Fin 3); exact H (1 : Fin 3); exact H (2 : Fin 3)]⟩
theorem mem_c (k r : ℕ) (h) (i : S3x1024x4096.Idx) : i ∈ ((cM.slice (Rect.unit (s := S3x1024x4096) ![k, r, 0] S1x512x4096.size h) (fun _ => rfl)).squeeze S512x4096 squeezes_S1x512x4096_S512x4096).view.set ↔ (i (0 : Fin 3)).val = k ∧ r ≤ (i (1 : Fin 3)).val ∧ (i (1 : Fin 3)).val < r + 512 := by
  have h2 : (i (2 : Fin 3)).val < 4096 := (i (2 : Fin 3)).isLt
  refine (mem_slot main_v1_1 ![k, r, 0] S1x512x4096.size h _ _ i).trans (Iff.trans ?_ (slot_iff _ _ _ k r h2))
  exact ⟨fun H a => by fin_cases a <;> [exact H (0 : Fin 3); exact H (1 : Fin 3); exact H (2 : Fin 3)], fun H a => by fin_cases a <;> [exact H (0 : Fin 3); exact H (1 : Fin 3); exact H (2 : Fin 3)]⟩

/-- The result's blocks at their rows. -/
abbrev o0 := blk ![0, 0] inb_S4096x2048_S512x2048_0_0
abbrev o1 := blk ![512, 0] inb_S4096x2048_S512x2048_512_0
abbrev o2 := blk ![1024, 0] inb_S4096x2048_S512x2048_1024_0
abbrev o3 := blk ![1536, 0] inb_S4096x2048_S512x2048_1536_0
abbrev o4 := blk ![2048, 0] inb_S4096x2048_S512x2048_2048_0
abbrev o5 := blk ![2560, 0] inb_S4096x2048_S512x2048_2560_0
abbrev o6 := blk ![3072, 0] inb_S4096x2048_S512x2048_3072_0
abbrev o7 := blk ![3584, 0] inb_S4096x2048_S512x2048_3584_0

/-- The two halves of the rounded rows; -/
def key_x (i : S1024x4096.Idx) : ℕ := (i (0 : Fin 2)).val / 512
theorem key_x_lt (i : S1024x4096.Idx) : key_x i < 2 := by
  unfold key_x
  have h : (i (0 : Fin 2)).val < 1024 := (i (0 : Fin 2)).isLt
  omega
theorem key_x_iff (t : Fin 2) (i : S1024x4096.Idx) : i ∈ (![x0.view.set, x1.view.set] : Fin 2 → Finset S1024x4096.Idx) t ↔ key_x i = t.val := by
    unfold key_x
    fin_cases t
    · exact (mem_x 0 _ i).trans ⟨fun H => by show _ = 0; omega, fun (H : _ = 0) => by omega⟩
    · exact (mem_x 512 _ i).trans ⟨fun H => by show _ = 1; omega, fun (H : _ = 1) => by omega⟩
theorem x_pieces (c : Dev nD) (q : PosShare TreeShare) (f : Buf (Elt F) (xM.view.loc (c : Thread nD τ))) :
    (xM.view.loc (c : Thread nD τ) ↦[Finset.univ]{q} f : sProp 𝕄)
      = iprop((xM.view.loc (c : Thread nD τ) ↦[x0.view.set]{q} f) ∗ (xM.view.loc (c : Thread nD τ) ↦[x1.view.set]{q} f)) := by
  rw [pieces_of (ℓ := xM.view.loc (c : Thread nD τ)) (𝕂 := (![x0.view.set, x1.view.set] : Fin 2 → Finset S1024x4096.Idx)) key_x key_x_lt key_x_iff, big2]
  rfl
theorem x_split (c : Dev nD) : (anyW xM c : sProp 𝕄) ⊢ iprop(anyAt x0 c ∗ anyAt x1 c) := by
  unfold anyW
  iintro ⟨%f, H⟩
  ihave H := (Entails.of_eq (x_pieces (F := F) c fullShare f)) $$ H
  icases H with ⟨H0, H1⟩
  isplitl [H0]; · iapply (to_any x0 c f); iexact H0
  iapply (to_any x1 c f); iexact H1
theorem x_join (c : Dev nD) : (iprop(anyAt x0 c ∗ anyAt x1 c) : sProp 𝕄) ⊢ anyW xM c := by
  unfold anyAt anyW
  iintro ⟨⟨%f0, H0⟩, ⟨%f1, H1⟩⟩
  iapply (join_of (ℓ := xM.view.loc (c : Thread nD τ)) (𝕂 := (![x0.view.set, x1.view.set] : Fin 2 → Finset S1024x4096.Idx)) key_x key_x_lt key_x_iff ![f0, f1] f0)
  rw [big2]
  isplitl [H0]; · iexact H0
  iexact H1

/-- the eight blocks of the result; -/
def key_o (i : S4096x2048.Idx) : ℕ := (i (0 : Fin 2)).val / 512
theorem key_o_lt (i : S4096x2048.Idx) : key_o i < 8 := by
  unfold key_o
  have h : (i (0 : Fin 2)).val < 4096 := (i (0 : Fin 2)).isLt
  omega
theorem key_o_iff (t : Fin 8) (i : S4096x2048.Idx) : i ∈ (![o0.view.set, o1.view.set, o2.view.set, o3.view.set, o4.view.set, o5.view.set, o6.view.set, o7.view.set] : Fin 8 → Finset S4096x2048.Idx) t ↔ key_o i = t.val := by
    unfold key_o
    fin_cases t
    · exact (mem_o 0 _ i).trans ⟨fun H => by show _ = 0; omega, fun (H : _ = 0) => by omega⟩
    · exact (mem_o 512 _ i).trans ⟨fun H => by show _ = 1; omega, fun (H : _ = 1) => by omega⟩
    · exact (mem_o 1024 _ i).trans ⟨fun H => by show _ = 2; omega, fun (H : _ = 2) => by omega⟩
    · exact (mem_o 1536 _ i).trans ⟨fun H => by show _ = 3; omega, fun (H : _ = 3) => by omega⟩
    · exact (mem_o 2048 _ i).trans ⟨fun H => by show _ = 4; omega, fun (H : _ = 4) => by omega⟩
    · exact (mem_o 2560 _ i).trans ⟨fun H => by show _ = 5; omega, fun (H : _ = 5) => by omega⟩
    · exact (mem_o 3072 _ i).trans ⟨fun H => by show _ = 6; omega, fun (H : _ = 6) => by omega⟩
    · exact (mem_o 3584 _ i).trans ⟨fun H => by show _ = 7; omega, fun (H : _ = 7) => by omega⟩
theorem o_pieces (c : Dev nD) (q : PosShare TreeShare) (f : Buf (Elt F) (oM.view.loc (c : Thread nD τ))) :
    (oM.view.loc (c : Thread nD τ) ↦[Finset.univ]{q} f : sProp 𝕄)
      = iprop((oM.view.loc (c : Thread nD τ) ↦[o0.view.set]{q} f) ∗ (oM.view.loc (c : Thread nD τ) ↦[o1.view.set]{q} f) ∗ (oM.view.loc (c : Thread nD τ) ↦[o2.view.set]{q} f) ∗ (oM.view.loc (c : Thread nD τ) ↦[o3.view.set]{q} f) ∗ (oM.view.loc (c : Thread nD τ) ↦[o4.view.set]{q} f) ∗ (oM.view.loc (c : Thread nD τ) ↦[o5.view.set]{q} f) ∗ (oM.view.loc (c : Thread nD τ) ↦[o6.view.set]{q} f) ∗ (oM.view.loc (c : Thread nD τ) ↦[o7.view.set]{q} f)) := by
  rw [pieces_of (ℓ := oM.view.loc (c : Thread nD τ)) (𝕂 := (![o0.view.set, o1.view.set, o2.view.set, o3.view.set, o4.view.set, o5.view.set, o6.view.set, o7.view.set] : Fin 8 → Finset S4096x2048.Idx)) key_o key_o_lt key_o_iff, big8]
  rfl
theorem o_split (c : Dev nD) : (anyW oM c : sProp 𝕄) ⊢ iprop(anyAt o0 c ∗ anyAt o1 c ∗ anyAt o2 c ∗ anyAt o3 c ∗ anyAt o4 c ∗ anyAt o5 c ∗ anyAt o6 c ∗ anyAt o7 c) := by
  unfold anyW
  iintro ⟨%f, H⟩
  ihave H := (Entails.of_eq (o_pieces (F := F) c fullShare f)) $$ H
  icases H with ⟨H0, H1, H2, H3, H4, H5, H6, H7⟩
  isplitl [H0]; · iapply (to_any o0 c f); iexact H0
  isplitl [H1]; · iapply (to_any o1 c f); iexact H1
  isplitl [H2]; · iapply (to_any o2 c f); iexact H2
  isplitl [H3]; · iapply (to_any o3 c f); iexact H3
  isplitl [H4]; · iapply (to_any o4 c f); iexact H4
  isplitl [H5]; · iapply (to_any o5 c f); iexact H5
  isplitl [H6]; · iapply (to_any o6 c f); iexact H6
  iapply (to_any o7 c f); iexact H7
theorem o_join (c : Dev nD) : (iprop(anyAt o0 c ∗ anyAt o1 c ∗ anyAt o2 c ∗ anyAt o3 c ∗ anyAt o4 c ∗ anyAt o5 c ∗ anyAt o6 c ∗ anyAt o7 c) : sProp 𝕄) ⊢ anyW oM c := by
  unfold anyAt anyW
  iintro ⟨⟨%f0, H0⟩, ⟨%f1, H1⟩, ⟨%f2, H2⟩, ⟨%f3, H3⟩, ⟨%f4, H4⟩, ⟨%f5, H5⟩, ⟨%f6, H6⟩, ⟨%f7, H7⟩⟩
  iapply (join_of (ℓ := oM.view.loc (c : Thread nD τ)) (𝕂 := (![o0.view.set, o1.view.set, o2.view.set, o3.view.set, o4.view.set, o5.view.set, o6.view.set, o7.view.set] : Fin 8 → Finset S4096x2048.Idx)) key_o key_o_lt key_o_iff ![f0, f1, f2, f3, f4, f5, f6, f7] f0)
  rw [big8]
  isplitl [H0]; · iexact H0
  isplitl [H1]; · iexact H1
  isplitl [H2]; · iexact H2
  isplitl [H3]; · iexact H3
  isplitl [H4]; · iexact H4
  isplitl [H5]; · iexact H5
  isplitl [H6]; · iexact H6
  iexact H7

/-- the two staging slots; -/
def key_s (i : S2x512x4096.Idx) : ℕ := (i (0 : Fin 3)).val
theorem key_s_lt (i : S2x512x4096.Idx) : key_s i < 2 := by
  unfold key_s
  exact (i (0 : Fin 3)).isLt
theorem key_s_iff (t : Fin 2) (i : S2x512x4096.Idx) : i ∈ (![s0.view.set, s1.view.set] : Fin 2 → Finset S2x512x4096.Idx) t ↔ key_s i = t.val := by
    unfold key_s
    have h1 : (i (1 : Fin 3)).val < 512 := (i (1 : Fin 3)).isLt
    fin_cases t
    · exact (mem_s 0 0 _ i).trans ⟨fun H => H.1, fun (H : _ = 0) => ⟨H, Nat.zero_le _, by omega⟩⟩
    · exact (mem_s 1 0 _ i).trans ⟨fun H => H.1, fun (H : _ = 1) => ⟨H, Nat.zero_le _, by omega⟩⟩
theorem s_pieces (c : Dev nD) (q : PosShare TreeShare) (f : Buf (Elt F) (sM.view.loc (c : Thread nD τ))) :
    (sM.view.loc (c : Thread nD τ) ↦[Finset.univ]{q} f : sProp 𝕄)
      = iprop((sM.view.loc (c : Thread nD τ) ↦[s0.view.set]{q} f) ∗ (sM.view.loc (c : Thread nD τ) ↦[s1.view.set]{q} f)) := by
  rw [pieces_of (ℓ := sM.view.loc (c : Thread nD τ)) (𝕂 := (![s0.view.set, s1.view.set] : Fin 2 → Finset S2x512x4096.Idx)) key_s key_s_lt key_s_iff, big2]
  rfl
theorem s_split (c : Dev nD) : (anyW sM c : sProp 𝕄) ⊢ iprop(anyAt s0 c ∗ anyAt s1 c) := by
  unfold anyW
  iintro ⟨%f, H⟩
  ihave H := (Entails.of_eq (s_pieces (F := F) c fullShare f)) $$ H
  icases H with ⟨H0, H1⟩
  isplitl [H0]; · iapply (to_any s0 c f); iexact H0
  iapply (to_any s1 c f); iexact H1
theorem s_join (c : Dev nD) : (iprop(anyAt s0 c ∗ anyAt s1 c) : sProp 𝕄) ⊢ anyW sM c := by
  unfold anyAt anyW
  iintro ⟨⟨%f0, H0⟩, ⟨%f1, H1⟩⟩
  iapply (join_of (ℓ := sM.view.loc (c : Thread nD τ)) (𝕂 := (![s0.view.set, s1.view.set] : Fin 2 → Finset S2x512x4096.Idx)) key_s key_s_lt key_s_iff ![f0, f1] f0)
  rw [big2]
  isplitl [H0]; · iexact H0
  iexact H1

/-- the three slots of the staged result; -/
def key_y (i : S3x512x2048.Idx) : ℕ := (i (0 : Fin 3)).val
theorem key_y_lt (i : S3x512x2048.Idx) : key_y i < 3 := by
  unfold key_y
  exact (i (0 : Fin 3)).isLt
theorem key_y_iff (t : Fin 3) (i : S3x512x2048.Idx) : i ∈ (![y0.view.set, y1.view.set, y2.view.set] : Fin 3 → Finset S3x512x2048.Idx) t ↔ key_y i = t.val := by
    unfold key_y
    have h1 : (i (1 : Fin 3)).val < 512 := (i (1 : Fin 3)).isLt
    fin_cases t
    · exact (mem_y 0 0 _ i).trans ⟨fun H => H.1, fun (H : _ = 0) => ⟨H, Nat.zero_le _, by omega⟩⟩
    · exact (mem_y 1 0 _ i).trans ⟨fun H => H.1, fun (H : _ = 1) => ⟨H, Nat.zero_le _, by omega⟩⟩
    · exact (mem_y 2 0 _ i).trans ⟨fun H => H.1, fun (H : _ = 2) => ⟨H, Nat.zero_le _, by omega⟩⟩
theorem y_pieces (c : Dev nD) (q : PosShare TreeShare) (f : Buf (Elt F) (yM.view.loc (c : Thread nD τ))) :
    (yM.view.loc (c : Thread nD τ) ↦[Finset.univ]{q} f : sProp 𝕄)
      = iprop((yM.view.loc (c : Thread nD τ) ↦[y0.view.set]{q} f) ∗ (yM.view.loc (c : Thread nD τ) ↦[y1.view.set]{q} f) ∗ (yM.view.loc (c : Thread nD τ) ↦[y2.view.set]{q} f)) := by
  rw [pieces_of (ℓ := yM.view.loc (c : Thread nD τ)) (𝕂 := (![y0.view.set, y1.view.set, y2.view.set] : Fin 3 → Finset S3x512x2048.Idx)) key_y key_y_lt key_y_iff, big3]
  rfl
theorem y_split (c : Dev nD) : (anyW yM c : sProp 𝕄) ⊢ iprop(anyAt y0 c ∗ anyAt y1 c ∗ anyAt y2 c) := by
  unfold anyW
  iintro ⟨%f, H⟩
  ihave H := (Entails.of_eq (y_pieces (F := F) c fullShare f)) $$ H
  icases H with ⟨H0, H1, H2⟩
  isplitl [H0]; · iapply (to_any y0 c f); iexact H0
  isplitl [H1]; · iapply (to_any y1 c f); iexact H1
  iapply (to_any y2 c f); iexact H2
theorem y_join (c : Dev nD) : (iprop(anyAt y0 c ∗ anyAt y1 c ∗ anyAt y2 c) : sProp 𝕄) ⊢ anyW yM c := by
  unfold anyAt anyW
  iintro ⟨⟨%f0, H0⟩, ⟨%f1, H1⟩, ⟨%f2, H2⟩⟩
  iapply (join_of (ℓ := yM.view.loc (c : Thread nD τ)) (𝕂 := (![y0.view.set, y1.view.set, y2.view.set] : Fin 3 → Finset S3x512x2048.Idx)) key_y key_y_lt key_y_iff ![f0, f1, f2] f0)
  rw [big3]
  isplitl [H0]; · iexact H0
  isplitl [H1]; · iexact H1
  iexact H2

/-- the four slots of the maxima; -/
def key_m (i : S4x8x128.Idx) : ℕ := (i (0 : Fin 3)).val
theorem key_m_lt (i : S4x8x128.Idx) : key_m i < 4 := by
  unfold key_m
  exact (i (0 : Fin 3)).isLt
theorem key_m_iff (t : Fin 4) (i : S4x8x128.Idx) : i ∈ (![m0.view.set, m1.view.set, m2.view.set, m3.view.set] : Fin 4 → Finset S4x8x128.Idx) t ↔ key_m i = t.val := by
    unfold key_m
    have h1 : (i (1 : Fin 3)).val < 8 := (i (1 : Fin 3)).isLt
    fin_cases t
    · exact (mem_m 0 0 _ i).trans ⟨fun H => H.1, fun (H : _ = 0) => ⟨H, Nat.zero_le _, by omega⟩⟩
    · exact (mem_m 1 0 _ i).trans ⟨fun H => H.1, fun (H : _ = 1) => ⟨H, Nat.zero_le _, by omega⟩⟩
    · exact (mem_m 2 0 _ i).trans ⟨fun H => H.1, fun (H : _ = 2) => ⟨H, Nat.zero_le _, by omega⟩⟩
    · exact (mem_m 3 0 _ i).trans ⟨fun H => H.1, fun (H : _ = 3) => ⟨H, Nat.zero_le _, by omega⟩⟩
theorem m_pieces (c : Dev nD) (q : PosShare TreeShare) (f : Buf (Elt F) (mM.view.loc (c : Thread nD τ))) :
    (mM.view.loc (c : Thread nD τ) ↦[Finset.univ]{q} f : sProp 𝕄)
      = iprop((mM.view.loc (c : Thread nD τ) ↦[m0.view.set]{q} f) ∗ (mM.view.loc (c : Thread nD τ) ↦[m1.view.set]{q} f) ∗ (mM.view.loc (c : Thread nD τ) ↦[m2.view.set]{q} f) ∗ (mM.view.loc (c : Thread nD τ) ↦[m3.view.set]{q} f)) := by
  rw [pieces_of (ℓ := mM.view.loc (c : Thread nD τ)) (𝕂 := (![m0.view.set, m1.view.set, m2.view.set, m3.view.set] : Fin 4 → Finset S4x8x128.Idx)) key_m key_m_lt key_m_iff, big4]
  rfl
theorem m_split (c : Dev nD) : (anyW mM c : sProp 𝕄) ⊢ iprop(anyAt m0 c ∗ anyAt m1 c ∗ anyAt m2 c ∗ anyAt m3 c) := by
  unfold anyW
  iintro ⟨%f, H⟩
  ihave H := (Entails.of_eq (m_pieces (F := F) c fullShare f)) $$ H
  icases H with ⟨H0, H1, H2, H3⟩
  isplitl [H0]; · iapply (to_any m0 c f); iexact H0
  isplitl [H1]; · iapply (to_any m1 c f); iexact H1
  isplitl [H2]; · iapply (to_any m2 c f); iexact H2
  iapply (to_any m3 c f); iexact H3
theorem m_join (c : Dev nD) : (iprop(anyAt m0 c ∗ anyAt m1 c ∗ anyAt m2 c ∗ anyAt m3 c) : sProp 𝕄) ⊢ anyW mM c := by
  unfold anyAt anyW
  iintro ⟨⟨%f0, H0⟩, ⟨%f1, H1⟩, ⟨%f2, H2⟩, ⟨%f3, H3⟩⟩
  iapply (join_of (ℓ := mM.view.loc (c : Thread nD τ)) (𝕂 := (![m0.view.set, m1.view.set, m2.view.set, m3.view.set] : Fin 4 → Finset S4x8x128.Idx)) key_m key_m_lt key_m_iff ![f0, f1, f2, f3] f0)
  rw [big4]
  isplitl [H0]; · iexact H0
  isplitl [H1]; · iexact H1
  isplitl [H2]; · iexact H2
  iexact H3

/-- the six half-slots of the landing buffer. -/
def key_c (i : S3x1024x4096.Idx) : ℕ := 2 * (i (0 : Fin 3)).val + (i (1 : Fin 3)).val / 512
theorem key_c_lt (i : S3x1024x4096.Idx) : key_c i < 6 := by
  unfold key_c
  have h0 : (i (0 : Fin 3)).val < 3 := (i (0 : Fin 3)).isLt
  have h : (i (1 : Fin 3)).val < 1024 := (i (1 : Fin 3)).isLt
  omega
theorem key_c_iff (t : Fin 6) (i : S3x1024x4096.Idx) : i ∈ (![c00.view.set, c01.view.set, c10.view.set, c11.view.set, c20.view.set, c21.view.set] : Fin 6 → Finset S3x1024x4096.Idx) t ↔ key_c i = t.val := by
    unfold key_c
    have h1 : (i (1 : Fin 3)).val < 1024 := (i (1 : Fin 3)).isLt
    fin_cases t
    · exact (mem_c 0 0 _ i).trans ⟨fun H => by show _ = 0; omega, fun (H : _ = 0) => by omega⟩
    · exact (mem_c 0 512 _ i).trans ⟨fun H => by show _ = 1; omega, fun (H : _ = 1) => by omega⟩
    · exact (mem_c 1 0 _ i).trans ⟨fun H => by show _ = 2; omega, fun (H : _ = 2) => by omega⟩
    · exact (mem_c 1 512 _ i).trans ⟨fun H => by show _ = 3; omega, fun (H : _ = 3) => by omega⟩
    · exact (mem_c 2 0 _ i).trans ⟨fun H => by show _ = 4; omega, fun (H : _ = 4) => by omega⟩
    · exact (mem_c 2 512 _ i).trans ⟨fun H => by show _ = 5; omega, fun (H : _ = 5) => by omega⟩
theorem c_pieces (c : Dev nD) (q : PosShare TreeShare) (f : Buf (Elt F) (cM.view.loc (c : Thread nD τ))) :
    (cM.view.loc (c : Thread nD τ) ↦[Finset.univ]{q} f : sProp 𝕄)
      = iprop((cM.view.loc (c : Thread nD τ) ↦[c00.view.set]{q} f) ∗ (cM.view.loc (c : Thread nD τ) ↦[c01.view.set]{q} f) ∗ (cM.view.loc (c : Thread nD τ) ↦[c10.view.set]{q} f) ∗ (cM.view.loc (c : Thread nD τ) ↦[c11.view.set]{q} f) ∗ (cM.view.loc (c : Thread nD τ) ↦[c20.view.set]{q} f) ∗ (cM.view.loc (c : Thread nD τ) ↦[c21.view.set]{q} f)) := by
  rw [pieces_of (ℓ := cM.view.loc (c : Thread nD τ)) (𝕂 := (![c00.view.set, c01.view.set, c10.view.set, c11.view.set, c20.view.set, c21.view.set] : Fin 6 → Finset S3x1024x4096.Idx)) key_c key_c_lt key_c_iff, big6]
  rfl
theorem c_split (c : Dev nD) : (anyW cM c : sProp 𝕄) ⊢ iprop(anyAt c00 c ∗ anyAt c01 c ∗ anyAt c10 c ∗ anyAt c11 c ∗ anyAt c20 c ∗ anyAt c21 c) := by
  unfold anyW
  iintro ⟨%f, H⟩
  ihave H := (Entails.of_eq (c_pieces (F := F) c fullShare f)) $$ H
  icases H with ⟨H0, H1, H2, H3, H4, H5⟩
  isplitl [H0]; · iapply (to_any c00 c f); iexact H0
  isplitl [H1]; · iapply (to_any c01 c f); iexact H1
  isplitl [H2]; · iapply (to_any c10 c f); iexact H2
  isplitl [H3]; · iapply (to_any c11 c f); iexact H3
  isplitl [H4]; · iapply (to_any c20 c f); iexact H4
  iapply (to_any c21 c f); iexact H5
theorem c_join (c : Dev nD) : (iprop(anyAt c00 c ∗ anyAt c01 c ∗ anyAt c10 c ∗ anyAt c11 c ∗ anyAt c20 c ∗ anyAt c21 c) : sProp 𝕄) ⊢ anyW cM c := by
  unfold anyAt anyW
  iintro ⟨⟨%f0, H0⟩, ⟨%f1, H1⟩, ⟨%f2, H2⟩, ⟨%f3, H3⟩, ⟨%f4, H4⟩, ⟨%f5, H5⟩⟩
  iapply (join_of (ℓ := cM.view.loc (c : Thread nD τ)) (𝕂 := (![c00.view.set, c01.view.set, c10.view.set, c11.view.set, c20.view.set, c21.view.set] : Fin 6 → Finset S3x1024x4096.Idx)) key_c key_c_lt key_c_iff ![f0, f1, f2, f3, f4, f5] f0)
  rw [big6]
  isplitl [H0]; · iexact H0
  isplitl [H1]; · iexact H1
  isplitl [H2]; · iexact H2
  isplitl [H3]; · iexact H3
  isplitl [H4]; · iexact H4
  iexact H5

end Cert.MeshProof

end
-- ==== Proof.Joins.lean ====
/-
The slots of the maxima read together, and the blocks of the result in the order of their rows.
-/
module

public import proofs.«01_k».proof.Proof.Pieces

@[expose] public section

set_option maxRecDepth 16384

noncomputable section

namespace Cert.MeshProof

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Bool (Elt F) ℕ UU ℕ

variable (m : (ℓ : Loc nD τ sig) → Buf (Elt F) ℓ)

/-! ## The maxima -/

/-- The number that device `d` sends round; -/
def amv (d : Dev nD) : F .f32 := FloatOps.addf (Scalar.ofBits .f32 0x00000000#32) (mx7 m d)
theorem am_apply (d : Dev nD) (y : S8x128.Idx) : am m d y = amv m d := rfl
/-- the device whose number lies in slot `k` of device `c`; -/
def from_ (c : Dev nD) (k : Fin 4) : Dev nD := ![c, prv c, nxt (nxt c), nxt c] k
/-- the four slots together. -/
def mall (c : Dev nD) : S4x8x128.Idx → F .f32 := fun i => amv m (from_ c (i (0 : Fin 3)))

theorem mall_read (c : Dev nD) (k : Fin 4) (h : ∀ a, (![k.val, 0, 0] : Fin 3 → ℕ) a + S1x8x128.size a ≤ S4x8x128.size a) :
    ((mM.slice (Rect.unit (s := S4x8x128) ![k.val, 0, 0] S1x8x128.size h) (fun _ => rfl)).squeeze S8x128 squeezes_S1x8x128_S8x128).view.read (Elt F) (mM.view.rep (mall m c))
      = am m (from_ c k) := by
  funext y
  refine (congrFun (View.read_rep (Val := Elt F) mM.view (mall m c)) _).trans ?_
  unfold mall
  refine congrArg (fun k => amv m (from_ c k)) (Fin.ext ?_)
  have hz : ∀ z : S1x8x128.Idx, (z (0 : Fin 3)).val = 0 := fun z => Nat.lt_one_iff.mp (z (0 : Fin 3)).isLt
  show k.val + 1 * _ = k.val
  rw [hz]
  omega

theorem max_join (c : Dev nD) : iprop(holds m0 c fullShare (am m c) ∗ holds m1 c fullShare (am m (prv c)) ∗ holds m2 c fullShare (am m (nxt (nxt c))) ∗ holds m3 c fullShare (am m (nxt c)))
    ⊢ (atW mM c (mM.view.rep (mall m c)) : sProp 𝕄) := by
  refine .trans ?_ (Entails.of_eq (m_pieces c fullShare _).symm)
  exact BI.sep_mono (of_holds m0 c fullShare _ _ (mall_read m c 0 inb_S4x8x128_S1x8x128_0_0_0)) (BI.sep_mono (of_holds m1 c fullShare _ _ (mall_read m c 1 inb_S4x8x128_S1x8x128_1_0_0))
    (BI.sep_mono (of_holds m2 c fullShare _ _ (mall_read m c 2 inb_S4x8x128_S1x8x128_2_0_0)) (of_holds m3 c fullShare _ _ (mall_read m c 3 inb_S4x8x128_S1x8x128_3_0_0))))

/-! ## The blocks of the result, in the order of their rows -/

/-- Every device is this one, its neighbours or the one opposite. -/
theorem ring_all (c : Dev nD) (P : Dev nD → sProp 𝕄) : iprop(P c ∗ P (prv c) ∗ P (nxt c) ∗ P (nxt (nxt c))) ⊢ iprop(P 0 ∗ P 1 ∗ P 2 ∗ P 3) := by
  fin_cases c
  · show iprop(P 0 ∗ P 3 ∗ P 1 ∗ P 2) ⊢ _
    iintro ⟨H0, H3, H1, H2⟩; isplitl [H0]; · iexact H0
    isplitl [H1]; · iexact H1
    isplitl [H2]; · iexact H2
    iexact H3
  · show iprop(P 1 ∗ P 0 ∗ P 2 ∗ P 3) ⊢ _
    iintro ⟨H1, H0, H2, H3⟩; isplitl [H0]; · iexact H0
    isplitl [H1]; · iexact H1
    isplitl [H2]; · iexact H2
    iexact H3
  · show iprop(P 2 ∗ P 1 ∗ P 3 ∗ P 0) ⊢ _
    iintro ⟨H2, H1, H3, H0⟩; isplitl [H0]; · iexact H0
    isplitl [H1]; · iexact H1
    isplitl [H2]; · iexact H2
    iexact H3
  · show iprop(P 3 ∗ P 2 ∗ P 0 ∗ P 1) ⊢ _
    iintro ⟨H3, H2, H0, H1⟩; isplitl [H0]; · iexact H0
    isplitl [H1]; · iexact H1
    isplitl [H2]; · iexact H2
    iexact H3

theorem row_inb (d : Dev nD) (r : ℕ) (hr : r + 512 ≤ 1024) : ∀ a, (![1024 * d.val + r, 0] : Fin 2 → ℕ) a + S512x2048.size a ≤ S4096x2048.size a := by
  intro a
  have : d.val < 4 := d.isLt
  fin_cases a
  · show 1024 * d.val + r + 512 ≤ 4096; omega
  · show 0 + 2048 ≤ 2048; omega
/-- Device `d`'s rows of device `c`'s result, at the two halves of `y`; -/
def rowsAt (c : Dev nD) (y : Dev nD → Fin 2 → S512x2048.Idx → Elt F .bf16) (d : Dev nD) : sProp 𝕄 :=
  iprop(holds (blk ![1024 * d.val + 0, 0] (row_inb d 0 (by decide))) c fullShare (y d 0) ∗ holds (blk ![1024 * d.val + 512, 0] (row_inb d 512 (by decide))) c fullShare (y d 1))

theorem blk_at {o o' : Fin 2 → ℕ} (e : o = o') (h h') (c : Dev nD) (v : S512x2048.Idx → Elt F .bf16) : (holds (blk o h) c fullShare v : sProp 𝕄) ⊢ holds (blk o' h') c fullShare v := by
  subst e; exact .rfl
theorem any_at {o o' : Fin 2 → ℕ} (e : o = o') (h h') (c : Dev nD) : (anyAt (blk o h) c : sProp 𝕄) ⊢ anyAt (blk o' h') c := by
  subst e; exact .rfl

theorem off_own : ∀ c : Dev nD, k0_off1 c 0#32 = ![1024 * c.val + 0, 0] ∧ k0_off1 c 512#32 = ![1024 * c.val + 512, 0] := by decide +kernel
theorem off_prv : ∀ c : Dev nD, k0_off2 c 0#32 = ![1024 * (prv c).val + 0, 0] ∧ k0_off2 c 512#32 = ![1024 * (prv c).val + 512, 0] := by decide +kernel
theorem off_nxt : ∀ c : Dev nD, k0_off3 c 1#32 0#32 = ![1024 * (nxt c).val + 0, 0] ∧ k0_off3 c 1#32 512#32 = ![1024 * (nxt c).val + 512, 0] := by decide +kernel
theorem off_opp : ∀ c : Dev nD, k0_off3 c 2#32 0#32 = ![1024 * (nxt (nxt c)).val + 0, 0] ∧ k0_off3 c 2#32 512#32 = ![1024 * (nxt (nxt c)).val + 512, 0] := by decide +kernel

/-- the blocks as they were computed are the blocks in order. -/
theorem out_order (c : Dev nD) (y : Dev nD → Fin 2 → S512x2048.Idx → Elt F .bf16) :
    iprop(holds (bOwn0 c) c fullShare (y c 0) ∗ holds (bOwn1 c) c fullShare (y c 1) ∗ holds (bPrv0 c) c fullShare (y (prv c) 0) ∗ holds (bPrv1 c) c fullShare (y (prv c) 1)
      ∗ holds (bNxt0 c) c fullShare (y (nxt c) 0) ∗ holds (bNxt1 c) c fullShare (y (nxt c) 1) ∗ holds (bOpp0 c) c fullShare (y (nxt (nxt c)) 0) ∗ holds (bOpp1 c) c fullShare (y (nxt (nxt c)) 1))
    ⊢ (iprop(holds o0 c fullShare (y 0 0) ∗ holds o1 c fullShare (y 0 1) ∗ holds o2 c fullShare (y 1 0) ∗ holds o3 c fullShare (y 1 1)
      ∗ holds o4 c fullShare (y 2 0) ∗ holds o5 c fullShare (y 2 1) ∗ holds o6 c fullShare (y 3 0) ∗ holds o7 c fullShare (y 3 1)) : sProp 𝕄) := by
  iintro ⟨H0, H1, H2, H3, H4, H5, H6, H7⟩
  ihave H := (ring_all c (rowsAt c y)) $$ [H0 H1 H2 H3 H4 H5 H6 H7]
  · unfold rowsAt
    isplitl [H0 H1]
    · isplitl [H0]; · iapply (blk_at (off_own c).1); iexact H0
      iapply (blk_at (off_own c).2); iexact H1
    isplitl [H2 H3]
    · isplitl [H2]; · iapply (blk_at (off_prv c).1); iexact H2
      iapply (blk_at (off_prv c).2); iexact H3
    isplitl [H4 H5]
    · isplitl [H4]; · iapply (blk_at (off_nxt c).1); iexact H4
      iapply (blk_at (off_nxt c).2); iexact H5
    isplitl [H6]; · iapply (blk_at (off_opp c).1); iexact H6
    iapply (blk_at (off_opp c).2); iexact H7
  unfold rowsAt
  icases H with ⟨⟨H0, H1⟩, ⟨H2, H3⟩, ⟨H4, H5⟩, ⟨H6, H7⟩⟩
  isplitl [H0]; · iexact H0
  isplitl [H1]; · iexact H1
  isplitl [H2]; · iexact H2
  isplitl [H3]; · iexact H3
  isplitl [H4]; · iexact H4
  isplitl [H5]; · iexact H5
  isplitl [H6]; · iexact H6
  iexact H7

/-- and the other way round, at contents it does not say. -/
theorem ring_all' (c : Dev nD) (P : Dev nD → sProp 𝕄) : iprop(P 0 ∗ P 1 ∗ P 2 ∗ P 3) ⊢ iprop(P c ∗ P (prv c) ∗ P (nxt c) ∗ P (nxt (nxt c))) := by
  fin_cases c
  · show _ ⊢ iprop(P 0 ∗ P 3 ∗ P 1 ∗ P 2)
    iintro ⟨H0, H1, H2, H3⟩; isplitl [H0]; · iexact H0
    isplitl [H3]; · iexact H3
    isplitl [H1]; · iexact H1
    iexact H2
  · show _ ⊢ iprop(P 1 ∗ P 0 ∗ P 2 ∗ P 3)
    iintro ⟨H0, H1, H2, H3⟩; isplitl [H1]; · iexact H1
    isplitl [H0]; · iexact H0
    isplitl [H2]; · iexact H2
    iexact H3
  · show _ ⊢ iprop(P 2 ∗ P 1 ∗ P 3 ∗ P 0)
    iintro ⟨H0, H1, H2, H3⟩; isplitl [H2]; · iexact H2
    isplitl [H1]; · iexact H1
    isplitl [H3]; · iexact H3
    iexact H0
  · show _ ⊢ iprop(P 3 ∗ P 2 ∗ P 0 ∗ P 1)
    iintro ⟨H0, H1, H2, H3⟩; isplitl [H3]; · iexact H3
    isplitl [H2]; · iexact H2
    isplitl [H0]; · iexact H0
    iexact H1
def anyRows (c d : Dev nD) : sProp 𝕄 :=
  iprop(anyAt (F := F) (blk ![1024 * d.val + 0, 0] (row_inb d 0 (by decide))) c ∗ anyAt (blk ![1024 * d.val + 512, 0] (row_inb d 512 (by decide))) c)
theorem out_open (c : Dev nD) : (anyW oM c : sProp 𝕄)
    ⊢ iprop(anyAt (bOwn0 c) c ∗ anyAt (bOwn1 c) c ∗ anyAt (bPrv0 c) c ∗ anyAt (bPrv1 c) c ∗ anyAt (bNxt0 c) c ∗ anyAt (bNxt1 c) c ∗ anyAt (bOpp0 c) c ∗ anyAt (bOpp1 c) c) := by
  iintro H
  ihave H := (o_split c) $$ H
  icases H with ⟨H0, H1, H2, H3, H4, H5, H6, H7⟩
  ihave H := (ring_all' c (anyRows (F := F) c)) $$ [H0 H1 H2 H3 H4 H5 H6 H7]
  · unfold anyRows
    isplitl [H0 H1]
    · isplitl [H0]; · iexact H0
      iexact H1
    isplitl [H2 H3]
    · isplitl [H2]; · iexact H2
      iexact H3
    isplitl [H4 H5]
    · isplitl [H4]; · iexact H4
      iexact H5
    isplitl [H6]; · iexact H6
    iexact H7
  unfold anyRows
  icases H with ⟨⟨H0, H1⟩, ⟨H2, H3⟩, ⟨H4, H5⟩, ⟨H6, H7⟩⟩
  isplitl [H0]; · iapply (any_at (off_own c).1.symm); iexact H0
  isplitl [H1]; · iapply (any_at (off_own c).2.symm); iexact H1
  isplitl [H2]; · iapply (any_at (off_prv c).1.symm); iexact H2
  isplitl [H3]; · iapply (any_at (off_prv c).2.symm); iexact H3
  isplitl [H4]; · iapply (any_at (off_nxt c).1.symm); iexact H4
  isplitl [H5]; · iapply (any_at (off_nxt c).2.symm); iexact H5
  isplitl [H6]; · iapply (any_at (off_opp c).1.symm); iexact H6
  iapply (any_at (off_opp c).2.symm); iexact H7

end Cert.MeshProof

end
-- ==== Proof.SegE.lean ====
/-
The fifth stage: the maxima go round, the blocks under way to the result arrive, and the first ones come back to be quantised.
-/
module

public import proofs.«01_k».proof.Proof.Joins

@[expose] public section

set_option maxRecDepth 16384

noncomputable section

namespace Cert.MeshProof

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Bool (Elt F) ℕ UU ℕ

variable (m : (ℓ : Loc nD τ sig) → Buf (Elt F) ℓ)

/-- A block of the staged result with the unit axis its slot has in front. -/
abbrev upy (v : S512x2048.Idx → Elt F .bf16) : Vec F S1x512x2048 .bf16 := shapeCast S1x512x2048 v squeezes_S1x512x2048_S512x2048.numel_eq.symm

/-- What the fifth stage starts from; -/
def preE (c : Dev nD) : sProp 𝕄 :=
  iprop(owe c 3 ∗ holds m0 c fullShare (am m c) ∗ anyAt m1 (nxt c) ∗ anyAt m2 (nxt (nxt c)) ∗ anyAt m3 (prv c)
      ∗ credit c 1 N ∗ credit c 2 N ∗ credit c 3 N ∗ credit c 4 N ∗ credit c 5 N ∗ credit c 6 N ∗ credit c 16 NA ∗ credit c 17 NA ∗ credit c 18 NA
      ∗ todo c 1 ∗ todo c 2 ∗ todo c 3 ∗ todo c 4 ∗ todo c 5 ∗ todo c 6 ∗ todo c 13 ∗ todo c 14 ∗ todo c 15 ∗ todo c 16 ∗ todo c 17 ∗ todo c 18
      ∗ tok c 13 false ∗ tok c 14 false ∗ tok c 15 false ∗ tok (nxt c) 16 false ∗ tok (nxt (nxt c)) 17 false ∗ tok (prv c) 18 false
      ∗ holds (bOwn0 c) c fullShare (yb m c c 0) ∗ holds (bOwn1 c) c fullShare (yb m c c 1) ∗ holds (bPrv0 c) c fullShare (yb m c (prv c) 0) ∗ holds (bPrv1 c) c fullShare (yb m c (prv c) 1)
      ∗ holds (bNxt0 c) c fullShare (yb m c (nxt c) 0) ∗ holds (bNxt1 c) c fullShare (yb m c (nxt c) 1)
      ∗ outF c 14 (bOpp0 c) (yb m c (nxt (nxt c)) 0) y0 ∗ outF c 15 (bOpp1 c) (yb m c (nxt (nxt c)) 1) y1 ∗ zs c 17 ∗ zs c 18)
/-- and what it leaves. -/
def postE (c : Dev nD) : sProp 𝕄 :=
  iprop(owe c 0 ∗ atW mM c (mM.view.rep (mall m c))
      ∗ holds x0 c fullShare.right.left (xh m c 0) ∗ holds x1 c fullShare.right.left (xh m c 1) ∗ holds x0 c fullShare.right.right (xh m c 0) ∗ holds x1 c fullShare.right.right (xh m c 1)
      ∗ holds c00 c fullShare.right (xh m (prv c) 0) ∗ holds c11 c fullShare.right (xh m (nxt c) 1)
      ∗ done c 1 ∗ done c 2 ∗ done c 3 ∗ done c 4 ∗ done c 5 ∗ done c 6 ∗ done c 13 ∗ done c 14 ∗ done c 15 ∗ done c 16 ∗ done c 17 ∗ done c 18
      ∗ holds o0 c fullShare (yb m c 0 0) ∗ holds o2 c fullShare (yb m c 1 0) ∗ holds o3 c fullShare (yb m c 1 1)
      ∗ holds o4 c fullShare (yb m c 2 0) ∗ holds o5 c fullShare (yb m c 2 1) ∗ holds o6 c fullShare (yb m c 3 0) ∗ holds o7 c fullShare (yb m c 3 1)
      ∗ holds y0 c fullShare (yb m c 0 0) ∗ outF c 18 y1 (yb m c 0 1) o1 ∗ zs c 14 ∗ zs c 15 ∗ zs c 17)

set_option maxHeartbeats 8000000 in
set_option sl_exec.dmaWindow true in
theorem segE (K : Dev nD × Fin 19 → ℕ) (c : Dev nD) {α : Type} (Q : α → sProp 𝕄) (v2 v568 : BitVec 32)
    (kt : (Σ' (_ : F .f32) (_ : F .f32) (_ : FVec F S512x2048 .f32), FVec F S512x2048 .f32) → Prog (TpuEff nD τ sig (Elt F) Λ₀ .tc) α) :
    iprop(env m K ∗ preE m c ∗ (postE m c -∗ wpK c (kt ⟨k0_pay42 (mall m c), k0_pay43 (mall m c), k0_pay44 (mall m c) (upy (yb m c 0 0)), k0_pay45 (mall m c) (upy (yb m c 0 0))⟩) Q))
      ⊢ wpK c (onBufs (k0_part21 (F := F)) c v2 >>= fun r => onBufs (k0_part22 (F := F)) c r.2.1 r.2.2.1 r.2.2.2.1 r.2.2.2.2.1 r.2.2.2.2.2 >>= fun v610 =>
          onBufs (k0_part23 (F := F)) c >>= fun _ => onBufs (k0_part24 (F := F)) c >>= fun c1 =>
          onBufs (k0_part25 (F := F)) v568 r.1 c1 >>= fun _ => onBufs (k0_part26 (F := F)) v610 >>= kt) Q := by
  unfold preE wpK onBufs
  iintro ⟨#HE, ⟨HO, Hm0, Hm1, Hm2, Hm3, Hk1, Hk2, Hk3, Hk4, Hk5, Hk6, Hk16, Hk17, Hk18, Ha1, Ha2, Ha3, Ha4, Ha5, Ha6, Ha13, Ha14, Ha15, Ha16, Ha17, Ha18, Ht13, Ht14, Ht15, Hr16, Hr17, Hr18, B0, B1, B2, B3, B4, B5, Hf2, Hf3, Hz5, Hz6⟩, Hk⟩
  ihave #HL := (env_lev m K) $$ HE
  ihave #HW0 := (mayWaits_own (F := F) c 0 (by decide)) $$ HL
  ihave Hm0 := ((holds_halves m0 c fullShare (am m c)).1) $$ Hm0
  icases Hm0 with ⟨Hm0a, Hm0r⟩
  ihave Hm0r := ((holds_halves m0 c fullShare.right (am m c)).1) $$ Hm0r
  icases Hm0r with ⟨Hm0b, Hm0c⟩
  sl_exec
  iapply (wp_copy m K c 2 (dev9_eq c) 13 16 (by decide) (by decide) rfl rfl (src := m0) (dst := m1) (sS := (20 : Fin 26)) (sem := (23 : Fin 26)) rfl rfl rfl
      fullShare.left (am m c) iprop(emp) .rfl
      (by show _ ⊢ holds m1 (nxt c) fullShare (am m (prv (nxt c))); rw [prv_nxt]; iintro ⟨H, -⟩; iexact H)) $$ [HO Hm0a Hm1 Ht13 Hr16]
  · isplitr; · iexact HE
    isplitl [HO]; · iexact HO
    isplitl [Hm0a]; · iexact Hm0a
    isplitl [Hm1]; · iexact Hm1
    isplitr; · iempintro
    isplitl [Ht13]; · iexact Ht13
    iexact Hr16
  iintro ⟨HO, Hk13⟩
  sl_exec
  iapply (wp_copy m K c 1 (dev10_eq c) 14 17 (by decide) (by decide) rfl rfl (src := m0) (dst := m2) (sS := (21 : Fin 26)) (sem := (24 : Fin 26)) rfl rfl rfl
      fullShare.right.left (am m c) iprop(emp) .rfl
      (by show _ ⊢ holds m2 (nxt (nxt c)) fullShare (am m (nxt (nxt (nxt (nxt c))))); rw [nn_nn]; iintro ⟨H, -⟩; iexact H)) $$ [HO Hm0b Hm2 Ht14 Hr17]
  · isplitr; · iexact HE
    isplitl [HO]; · iexact HO
    isplitl [Hm0b]; · iexact Hm0b
    isplitl [Hm2]; · iexact Hm2
    isplitr; · iempintro
    isplitl [Ht14]; · iexact Ht14
    iexact Hr17
  iintro ⟨HO, Hk14⟩
  sl_exec
  iapply (wp_copy m K c 0 (dev11_eq c) 15 18 (by decide) (by decide) rfl rfl (src := m0) (dst := m3) (sS := (22 : Fin 26)) (sem := (25 : Fin 26)) rfl rfl rfl
      fullShare.right.right (am m c) iprop(emp) .rfl
      (by show _ ⊢ holds m3 (prv c) fullShare (am m (nxt (prv c))); rw [nxt_prv]; iintro ⟨H, -⟩; iexact H)) $$ [HO Hm0c Hm3 Ht15 Hr18]
  · isplitr; · iexact HE
    isplitl [HO]; · iexact HO
    isplitl [Hm0c]; · iexact Hm0c
    isplitl [Hm3]; · iexact Hm3
    isplitr; · iempintro
    isplitl [Ht15]; · iexact Ht15
    iexact Hr18
  iintro ⟨HO, Hk15⟩
  sl_exec
  iapply (wp_wait_cell m K c 0 1 (by decide) (above_of 0 0 (by decide) (by decide +revert)) (sem := (0 : Fin 26)) (dst := x0) rfl rfl) $$ [HO Hk1 Ha1]
  · isplitr; · iexact HE
    isplitl [HO]; · iexact HO
    isplitl [Hk1]; · iexact Hk1
    iexact Ha1
  iintro ⟨HO, Ha1, Hpay⟩

  ihave P1 := (show pay m c false (1 : Fin 19).val ⊢ holds x0 c fullShare.right.left (xh m c 0) from .rfl) $$ Hpay
  sl_exec
  iapply (wp_wait_cell m K c 0 2 (by decide) (above_of 0 0 (by decide) (by decide +revert)) (sem := (1 : Fin 26)) (dst := x1) rfl rfl) $$ [HO Hk2 Ha2]
  · isplitr; · iexact HE
    isplitl [HO]; · iexact HO
    isplitl [Hk2]; · iexact Hk2
    iexact Ha2
  iintro ⟨HO, Ha2, Hpay⟩

  ihave P2 := (show pay m c false (2 : Fin 19).val ⊢ holds x1 c fullShare.right.left (xh m c 1) from .rfl) $$ Hpay
  sl_exec
  iapply (wp_wait_cell m K c 0 3 (by decide) (above_of 0 0 (by decide) (by decide +revert)) (sem := (2 : Fin 26)) (dst := x0) rfl rfl) $$ [HO Hk3 Ha3]
  · isplitr; · iexact HE
    isplitl [HO]; · iexact HO
    isplitl [Hk3]; · iexact Hk3
    iexact Ha3
  iintro ⟨HO, Ha3, Hpay⟩

  ihave P3 := (show pay m c false (3 : Fin 19).val ⊢ holds x0 c fullShare.right.right (xh m c 0) from .rfl) $$ Hpay
  sl_exec
  iapply (wp_wait_cell m K c 0 4 (by decide) (above_of 0 0 (by decide) (by decide +revert)) (sem := (3 : Fin 26)) (dst := x1) rfl rfl) $$ [HO Hk4 Ha4]
  · isplitr; · iexact HE
    isplitl [HO]; · iexact HO
    isplitl [Hk4]; · iexact Hk4
    iexact Ha4
  iintro ⟨HO, Ha4, Hpay⟩

  ihave P4 := (show pay m c false (4 : Fin 19).val ⊢ holds x1 c fullShare.right.right (xh m c 1) from .rfl) $$ Hpay
  sl_exec
  iapply (wp_wait_cell m K c 0 5 (by decide) (above_of 0 0 (by decide) (by decide +revert)) (sem := (4 : Fin 26)) (dst := c00) rfl rfl) $$ [HO Hk5 Ha5]
  · isplitr; · iexact HE
    isplitl [HO]; · iexact HO
    isplitl [Hk5]; · iexact Hk5
    iexact Ha5
  iintro ⟨HO, Ha5, Hpay⟩

  ihave P5 := (show pay m c false (5 : Fin 19).val ⊢ holds c00 c fullShare.right (xh m (prv c) 0) from .rfl) $$ Hpay
  sl_exec
  iapply (wp_wait_cell m K c 0 6 (by decide) (above_of 0 0 (by decide) (by decide +revert)) (sem := (5 : Fin 26)) (dst := c11) rfl rfl) $$ [HO Hk6 Ha6]
  · isplitr; · iexact HE
    isplitl [HO]; · iexact HO
    isplitl [Hk6]; · iexact Hk6
    iexact Ha6
  iintro ⟨HO, Ha6, Hpay⟩

  ihave P6 := (show pay m c false (6 : Fin 19).val ⊢ holds c11 c fullShare.right (xh m (nxt c) 1) from .rfl) $$ Hpay
  ihave HO := (owe_open (F := F) c 0) $$ HO
  icases HO with ⟨%W0, HO⟩
  sl_exec
  ihave HB := (out_order c (yb m c)) $$ [B0 B1 B2 B3 B4 B5 Hf2_dst Hf3_dst]
  · iframe
  icases HB with ⟨B0, B1, B2, B3, B4, B5, B6, B7⟩
  sl_exec
  ihave HO := (owe_intro (F := F) c 0 _) $$ HO
  iapply (wp_wait_cell m K c 0 13 (by decide) (above_of 0 0 (by decide) (by decide +revert)) (sem := (20 : Fin 26)) (dst := m0) rfl rfl) $$ [HO Hk13 Ha13]
  · isplitr; · iexact HE
    isplitl [HO]; · iexact HO
    isplitl [Hk13]; · iexact Hk13
    iexact Ha13
  iintro ⟨HO, Ha13, Hpay⟩

  ihave P13 := (show pay m c false (13 : Fin 19).val ⊢ holds m0 c fullShare.left (am m c) from .rfl) $$ Hpay
  sl_exec
  iapply (wp_wait_cell m K c 0 16 (by decide) (above_of 4 0 (by decide) (by decide +revert)) (sem := (23 : Fin 26)) (dst := m1) rfl rfl) $$ [HO Hk16 Ha16]
  · isplitr; · iexact HE
    isplitl [HO]; · iexact HO
    isplitl [Hk16]; · iexact Hk16
    iexact Ha16
  iintro ⟨HO, Ha16, Hpay⟩

  ihave P16 := (show pay m c false (16 : Fin 19).val ⊢ holds m1 c fullShare (am m (prv c)) from .rfl) $$ Hpay
  sl_exec
  iapply (wp_wait_cell m K c 0 14 (by decide) (above_of 0 0 (by decide) (by decide +revert)) (sem := (21 : Fin 26)) (dst := m0) rfl rfl) $$ [HO Hk14 Ha14]
  · isplitr; · iexact HE
    isplitl [HO]; · iexact HO
    isplitl [Hk14]; · iexact Hk14
    iexact Ha14
  iintro ⟨HO, Ha14, Hpay⟩

  ihave P14 := (show pay m c false (14 : Fin 19).val ⊢ holds m0 c fullShare.right.left (am m c) from .rfl) $$ Hpay
  sl_exec
  iapply (wp_wait_cell m K c 0 17 (by decide) (above_of 4 0 (by decide) (by decide +revert)) (sem := (24 : Fin 26)) (dst := m2) rfl rfl) $$ [HO Hk17 Ha17]
  · isplitr; · iexact HE
    isplitl [HO]; · iexact HO
    isplitl [Hk17]; · iexact Hk17
    iexact Ha17
  iintro ⟨HO, Ha17, Hpay⟩

  ihave P17 := (show pay m c false (17 : Fin 19).val ⊢ holds m2 c fullShare (am m (nxt (nxt c))) from .rfl) $$ Hpay
  sl_exec
  iapply (wp_wait_cell m K c 0 15 (by decide) (above_of 0 0 (by decide) (by decide +revert)) (sem := (22 : Fin 26)) (dst := m0) rfl rfl) $$ [HO Hk15 Ha15]
  · isplitr; · iexact HE
    isplitl [HO]; · iexact HO
    isplitl [Hk15]; · iexact Hk15
    iexact Ha15
  iintro ⟨HO, Ha15, Hpay⟩

  ihave P15 := (show pay m c false (15 : Fin 19).val ⊢ holds m0 c fullShare.right.right (am m c) from .rfl) $$ Hpay
  sl_exec
  iapply (wp_wait_cell m K c 0 18 (by decide) (above_of 4 0 (by decide) (by decide +revert)) (sem := (25 : Fin 26)) (dst := m3) rfl rfl) $$ [HO Hk18 Ha18]
  · isplitr; · iexact HE
    isplitl [HO]; · iexact HO
    isplitl [Hk18]; · iexact Hk18
    iexact Ha18
  iintro ⟨HO, Ha18, Hpay⟩

  ihave P18 := (show pay m c false (18 : Fin 19).val ⊢ holds m3 c fullShare (am m (nxt c)) from .rfl) $$ Hpay
  ihave Hm0r := ((holds_halves m0 c fullShare.right (am m c)).2) $$ [P14 P15]
  · iframe
  ihave Hm0 := ((holds_halves m0 c fullShare (am m c)).2) $$ [P13 Hm0r]
  · iframe
  ihave HM := (max_join m c) $$ [Hm0 P16 P17 P18]
  · iframe
  ihave HO := (owe_open (F := F) c 0) $$ HO
  icases HO with ⟨%W0, HO⟩
  sl_exec
  have e0 : segE.sl.dma0 m c = yb m c 0 0 := View.read_rep (Val := Elt F) o0.view _
  have e1 : segE.sl.dma0_1 m c = yb m c 0 1 := View.read_rep (Val := Elt F) o1.view _
  have ey : y0.view.read (Elt F) (y0.view.writes (Elt F) y0.view.junk [⟨Rect.whole S512x2048, segE.sl.dma0 m c⟩]) = yb m c 0 0 :=
    (View.read_writes_whole _ _ _).trans e0
  have ev := slot_load yM ![0, 0, 0] S1x512x2048.size inb_S3x512x2048_S1x512x2048_0_0_0 squeezes_S1x512x2048_S512x2048 _ (yb m c 0 0) squeezes_S1x512x2048_S512x2048.numel_eq.symm ey
  have em : mM.view.readAt (Elt F) (Rect.unit (s := S4x8x128) ![0, 0, 0] S4x8x128.size inb_S4x8x128_S4x8x128_0_0_0).toLoadRect (mM.view.rep (mall m c)) = mall m c :=
    (View.readAt_full _ _ _).trans (View.read_rep _ _)
  have eu : shapeCast (Rect.unit (s := S3x512x2048) ![0, 0, 0] S1x512x2048.size inb_S3x512x2048_S1x512x2048_0_0_0).shape (yb m c 0 0) squeezes_S1x512x2048_S512x2048.numel_eq.symm = upy (yb m c 0 0) := rfl
  have er : segE.sl.r m c = k0_pay42 (mall m c) := by unfold segE.sl.r; rw [em]
  have er1 : segE.sl.r_1 m c = k0_pay43 (mall m c) := by unfold segE.sl.r_1; rw [em]
  have er2 : segE.sl.r_2 m c = k0_pay44 (mall m c) (upy (yb m c 0 0)) := by unfold segE.sl.r_2; rw [em, ev]; exact congrArg (k0_pay44 (mall m c)) eu
  have er3 : segE.sl.r_3 m c = k0_pay45 (mall m c) (upy (yb m c 0 0)) := by unfold segE.sl.r_3; rw [em, ev]; exact congrArg (k0_pay45 (mall m c)) eu
  rw [er, er1, er2, er3]
  ihave HO := (owe_intro (F := F) c 0 _) $$ HO
  iapply Hk
  unfold postE
  isplitl [HO]; · iexact HO
  isplitl [HM]; · iexact HM
  isplitl [P1]; · iexact P1
  isplitl [P2]; · iexact P2
  isplitl [P3]; · iexact P3
  isplitl [P4]; · iexact P4
  isplitl [P5]; · iexact P5
  isplitl [P6]; · iexact P6
  isplitl [Ha1]; · iexact Ha1
  isplitl [Ha2]; · iexact Ha2
  isplitl [Ha3]; · iexact Ha3
  isplitl [Ha4]; · iexact Ha4
  isplitl [Ha5]; · iexact Ha5
  isplitl [Ha6]; · iexact Ha6
  isplitl [Ha13]; · iexact Ha13
  isplitl [Ha14]; · iexact Ha14
  isplitl [Ha15]; · iexact Ha15
  isplitl [Ha16]; · iexact Ha16
  isplitl [Ha17]; · iexact Ha17
  isplitl [Ha18]; · iexact Ha18
  isplitl [B0]; · iexact B0
  isplitl [B2]; · iexact B2
  isplitl [B3]; · iexact B3
  isplitl [B4]; · iexact B4
  isplitl [B5]; · iexact B5
  isplitl [B6]; · iexact B6
  isplitl [B7]; · iexact B7
  isplitl [Hf2_src]; · iapply (to_holds y0 c fullShare _ (yb m c 0 0) ey); iexact Hf2_src
  isplitl [Hz6]; · iapply (to_outF c 18 y1 (yb m c 0 1) o1 _ _ (o1.view.rep (yb m c 0 1)) e1 e1); iexact Hz6
  isplitl [Hf2]; · iexact Hf2
  isplitl [Hf3]; · iexact Hf3
  iexact Hz5

end Cert.MeshProof

end
-- ==== Proof.SegF.lean ====
/-
The sixth stage: the blocks of the result pass one after another through the three slots and go back quantised.
-/
module

public import proofs.«01_k».proof.Proof.SegE

@[expose] public section

set_option maxRecDepth 16384

noncomputable section

namespace Cert.MeshProof

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Bool (Elt F) ℕ UU ℕ

variable (m : (ℓ : Loc nD τ sig) → Buf (Elt F) ℓ)

/-- What the device's scale makes of a block of its product. -/
def qt (c : Dev nD) (y : S512x2048.Idx → Elt F .bf16) : S512x2048.Idx → Elt F .bf16 :=
  shapeCast S512x2048 (k0_pay49 (k0_pay42 (mall m c)) (k0_pay43 (mall m c)) (upy y)) shapeCasts_S1x512x2048_S512x2048

theorem qt_up (c : Dev nD) (y : S512x2048.Idx → Elt F .bf16) : k0_pay49 (k0_pay42 (mall m c)) (k0_pay43 (mall m c)) (upy y) = upy (qt m c y) := by
  unfold qt; exact (shapeCast_shapeCast _ _ _).symm
theorem qt46 (c : Dev nD) (y : S512x2048.Idx → Elt F .bf16) :
    k0_pay46 (k0_pay42 (mall m c)) (k0_pay44 (mall m c) (upy y)) (k0_pay45 (mall m c) (upy y)) = upy (qt m c y) := qt_up m c y
theorem qt48 (c : Dev nD) (y : S512x2048.Idx → Elt F .bf16) :
    k0_pay48 (k0_pay42 (mall m c)) (k0_pay43 (mall m c)) (k0_pay47 (upy y)) = upy (qt m c y) := qt_up m c y
theorem qt50 (c : Dev nD) (y : S512x2048.Idx → Elt F .bf16) : k0_pay50 (k0_pay42 (mall m c)) (k0_pay43 (mall m c)) (upy y) = upy (qt m c y) := qt_up m c y
theorem qt53 (c : Dev nD) (y : S512x2048.Idx → Elt F .bf16) : k0_pay53 (k0_pay42 (mall m c)) (k0_pay43 (mall m c)) (upy y) = upy (qt m c y) := qt_up m c y
theorem qt54 (c : Dev nD) (y : S512x2048.Idx → Elt F .bf16) : k0_pay54 (k0_pay42 (mall m c)) (k0_pay43 (mall m c)) (upy y) = upy (qt m c y) := qt_up m c y
theorem qt55 (c : Dev nD) (y : S512x2048.Idx → Elt F .bf16) : k0_pay55 (k0_pay42 (mall m c)) (k0_pay43 (mall m c)) (upy y) = upy (qt m c y) := qt_up m c y

theorem qt52 (c : Dev nD) (y : S512x2048.Idx → Elt F .bf16) :
    k0_pay52 (k0_pay42 (mall m c)) (k0_pay51 (k0_pay43 (mall m c)) (upy y)) (Scalar.ofBits .f32 0xC3E00000#32) (Scalar.ofBits .f32 0x43E00000#32) = upy (qt m c y) := qt_up m c y

/-- What the sixth stage starts from; -/
def preF (c : Dev nD) : sProp 𝕄 :=
  iprop(owe c 0 ∗ holds o0 c fullShare (yb m c 0 0) ∗ holds o2 c fullShare (yb m c 1 0) ∗ holds o3 c fullShare (yb m c 1 1)
      ∗ holds o4 c fullShare (yb m c 2 0) ∗ holds o5 c fullShare (yb m c 2 1) ∗ holds o6 c fullShare (yb m c 3 0) ∗ holds o7 c fullShare (yb m c 3 1)
      ∗ holds y0 c fullShare (yb m c 0 0) ∗ outF c 18 y1 (yb m c 0 1) o1 ∗ anyAt y2 c ∗ zs c 14 ∗ zs c 15 ∗ zs c 16 ∗ zs c 17 ∗ zs c 19)
/-- and what it leaves. -/
def postF (c : Dev nD) : sProp 𝕄 :=
  iprop(owe c 0 ∗ holds o0 c fullShare (qt m c (yb m c 0 0)) ∗ holds o1 c fullShare (qt m c (yb m c 0 1)) ∗ holds o2 c fullShare (qt m c (yb m c 1 0))
      ∗ holds o3 c fullShare (qt m c (yb m c 1 1)) ∗ holds o4 c fullShare (qt m c (yb m c 2 0))
      ∗ outF c 16 o5 (qt m c (yb m c 2 1)) y2 ∗ outF c 14 o6 (qt m c (yb m c 3 0)) y0 ∗ outF c 15 o7 (qt m c (yb m c 3 1)) y1 ∗ zs c 17 ∗ zs c 18 ∗ zs c 19)

set_option maxHeartbeats 8000000 in
set_option sl_exec.dmaWindow true in
theorem segF (K : Dev nD × Fin 19 → ℕ) (c : Dev nD) {α : Type} (Q : α → sProp 𝕄)
    (kt : Prog (TpuEff nD τ sig (Elt F) Λ₀ .tc) α) :
    iprop(env m K ∗ preF m c ∗ (postF m c -∗ wpK c kt Q))
      ⊢ wpK c (onBufs (k0_part27 (F := F)) (k0_pay42 (mall m c)) (k0_pay44 (mall m c) (upy (yb m c 0 0))) (k0_pay45 (mall m c) (upy (yb m c 0 0))) >>= fun v763 =>
          onBufs (k0_part28 (F := F)) (k0_pay42 (mall m c)) (k0_pay43 (mall m c)) v763 >>= fun _ =>
          onBufs (k0_part29 (F := F)) (k0_pay42 (mall m c)) (k0_pay43 (mall m c)) >>= fun _ => onBufs (k0_part30 (F := F)) (k0_pay42 (mall m c)) (k0_pay43 (mall m c)) >>= fun _ =>
          onBufs (k0_part31 (F := F)) (k0_pay43 (mall m c)) >>= fun r => onBufs (k0_part32 (F := F)) (k0_pay42 (mall m c)) r.1 r.2.1 r.2.2 >>= fun _ =>
          onBufs (k0_part33 (F := F)) (k0_pay42 (mall m c)) (k0_pay43 (mall m c)) >>= fun _ => onBufs (k0_part34 (F := F)) (k0_pay42 (mall m c)) (k0_pay43 (mall m c)) >>= fun _ =>
          onBufs (k0_part35 (F := F)) (k0_pay42 (mall m c)) (k0_pay43 (mall m c)) >>= fun _ => kt) Q := by
  unfold preF wpK onBufs
  iintro ⟨#HE, ⟨HO, B0, B2, B3, B4, B5, B6, B7, Y0, Hf6, Y2, Hz2, Hz3, Hz4, Hz5, Hz7⟩, Hk⟩
  ihave #HL := (env_lev m K) $$ HE
  ihave HO := (owe_open (F := F) c 0) $$ HO
  icases HO with ⟨%W0, HO⟩
  ihave #HW0 := (mayWaits_own (F := F) c 0 (by decide)) $$ HL
  ihave Y2 := (any_open y2 c) $$ Y2
  icases Y2 with ⟨%fy2, Y2⟩
  sl_exec
  have up0 (y : S512x2048.Idx → Elt F .bf16) : shapeCast (Rect.unit (s := S3x512x2048) ![0, 0, 0] S1x512x2048.size inb_S3x512x2048_S1x512x2048_0_0_0).shape y squeezes_S1x512x2048_S512x2048.numel_eq.symm = upy y := rfl
  have up1 (y : S512x2048.Idx → Elt F .bf16) : shapeCast (Rect.unit (s := S3x512x2048) ![1, 0, 0] S1x512x2048.size inb_S3x512x2048_S1x512x2048_1_0_0).shape y squeezes_S1x512x2048_S512x2048.numel_eq.symm = upy y := rfl
  have up2 (y : S512x2048.Idx → Elt F .bf16) : shapeCast (Rect.unit (s := S3x512x2048) ![2, 0, 0] S1x512x2048.size inb_S3x512x2048_S1x512x2048_2_0_0).shape y squeezes_S1x512x2048_S512x2048.numel_eq.symm = upy y := rfl
  have h0 : segF.sl.dma2 m c = qt m c (yb m c 0 0) := by
    unfold segF.sl.dma2 segF.sl.Y0_w1
    refine (congrArg (fun a => y0.view.read (Elt F) ((yM.access _).write (Elt F) _ a Finset.univ)) (qt46 m c (yb m c 0 0))).trans ?_
    exact slot_write yM ![0, 0, 0] S1x512x2048.size inb_S3x512x2048_S1x512x2048_0_0_0 _ _ (qt m c (yb m c 0 0)) _
  have h1 : segF.sl.dma5 m c = qt m c (yb m c 0 1) := by
    have l := slot_load yM _ S1x512x2048.size inb_S3x512x2048_S1x512x2048_1_0_0 squeezes_S1x512x2048_S512x2048 (y1.view.rep (yb m c 0 1)) (yb m c 0 1) squeezes_S1x512x2048_S512x2048.numel_eq.symm (View.read_rep (Val := Elt F) y1.view _)
    unfold segF.sl.dma5 segF.sl.Hf6_dst_w2 segF.sl.r
    rw [l, up1]
    refine (congrArg (fun a => y1.view.read (Elt F) ((yM.access _).write (Elt F) _ a Finset.univ)) (qt48 m c (yb m c 0 1))).trans ?_
    exact slot_write yM ![1, 0, 0] S1x512x2048.size inb_S3x512x2048_S1x512x2048_1_0_0 _ _ (qt m c (yb m c 0 1)) _
  have h2 : segF.sl.dma8 m c = qt m c (yb m c 1 0) := by
    have e : segF.sl.dma2_1 m c = yb m c 1 0 := View.read_rep (Val := Elt F) o2.view _
    have l := slot_load yM _ S1x512x2048.size inb_S3x512x2048_S1x512x2048_2_0_0 _ _ (yb m c 1 0) squeezes_S1x512x2048_S512x2048.numel_eq.symm (read_head y2 y2.view.junk _ _ [] e)
    unfold segF.sl.dma8 segF.sl.Y2_w3
    rw [l, up2]
    refine (congrArg (fun a => y2.view.read (Elt F) ((yM.access _).write (Elt F) _ a Finset.univ)) (qt_up m c (yb m c 1 0))).trans ?_
    exact slot_write yM ![2, 0, 0] S1x512x2048.size inb_S3x512x2048_S1x512x2048_2_0_0 _ _ (qt m c (yb m c 1 0)) _
  have h3 : segF.sl.dma11 m c = qt m c (yb m c 1 1) := by
    have e : segF.sl.dma5_1 m c = yb m c 1 1 := View.read_rep (Val := Elt F) o3.view _
    have l := slot_load yM _ S1x512x2048.size inb_S3x512x2048_S1x512x2048_0_0_0 _ _ (yb m c 1 1) squeezes_S1x512x2048_S512x2048.numel_eq.symm (read_head y0 y0.view.junk _ _ [] e)
    unfold segF.sl.dma11 segF.sl.Y0_w4 segF.sl.v839
    rw [l, up0]
    refine (congrArg (fun a => y0.view.read (Elt F) ((yM.access _).write (Elt F) _ a Finset.univ)) (qt50 m c (yb m c 1 1))).trans ?_
    exact slot_write yM ![0, 0, 0] S1x512x2048.size inb_S3x512x2048_S1x512x2048_0_0_0 _ _ (qt m c (yb m c 1 1)) _
  have h4 : segF.sl.dma14 m c = qt m c (yb m c 2 0) := by
    have e : segF.sl.dma8_1 m c = yb m c 2 0 := View.read_rep (Val := Elt F) o4.view _
    have l := slot_load yM _ S1x512x2048.size inb_S3x512x2048_S1x512x2048_1_0_0 _ _ (yb m c 2 0) squeezes_S1x512x2048_S512x2048.numel_eq.symm (read_head y1 y1.view.junk _ _ [] e)
    unfold segF.sl.dma14 segF.sl.Hf6_dst_w5 segF.sl.r_1 segF.sl.v878 segF.sl.cst_818 segF.sl.cst_819
    rw [l, up1]
    refine (congrArg (fun a => y1.view.read (Elt F) ((yM.access _).write (Elt F) _ a Finset.univ)) (qt52 m c (yb m c 2 0))).trans ?_
    exact slot_write yM ![1, 0, 0] S1x512x2048.size inb_S3x512x2048_S1x512x2048_1_0_0 _ _ (qt m c (yb m c 2 0)) _
  have h5 : segF.sl.dma17 m c = qt m c (yb m c 2 1) := by
    have e : segF.sl.dma11_1 m c = yb m c 2 1 := View.read_rep (Val := Elt F) o5.view _
    have l := slot_load yM _ S1x512x2048.size inb_S3x512x2048_S1x512x2048_2_0_0 _ _ (yb m c 2 1) squeezes_S1x512x2048_S512x2048.numel_eq.symm (read_head y2 y2.view.junk _ _ [] e)
    unfold segF.sl.dma17 segF.sl.Y2_w6 segF.sl.v917
    rw [l, up2]
    refine (congrArg (fun a => y2.view.read (Elt F) ((yM.access _).write (Elt F) _ a Finset.univ)) (qt53 m c (yb m c 2 1))).trans ?_
    exact slot_write yM ![2, 0, 0] S1x512x2048.size inb_S3x512x2048_S1x512x2048_2_0_0 _ _ (qt m c (yb m c 2 1)) _
  have h6 : segF.sl.dma20 m c = qt m c (yb m c 3 0) := by
    have e : segF.sl.dma14_1 m c = yb m c 3 0 := View.read_rep (Val := Elt F) o6.view _
    have l := slot_load yM _ S1x512x2048.size inb_S3x512x2048_S1x512x2048_0_0_0 _ _ (yb m c 3 0) squeezes_S1x512x2048_S512x2048.numel_eq.symm (read_head y0 y0.view.junk _ _ [] e)
    unfold segF.sl.dma20 segF.sl.Y0_w7 segF.sl.v956
    rw [l, up0]
    refine (congrArg (fun a => y0.view.read (Elt F) ((yM.access _).write (Elt F) _ a Finset.univ)) (qt54 m c (yb m c 3 0))).trans ?_
    exact slot_write yM ![0, 0, 0] S1x512x2048.size inb_S3x512x2048_S1x512x2048_0_0_0 _ _ (qt m c (yb m c 3 0)) _
  have h7 : segF.sl.dma23 m c = qt m c (yb m c 3 1) := by
    have e : segF.sl.dma17_1 m c = yb m c 3 1 := View.read_rep (Val := Elt F) o7.view _
    have l := slot_load yM _ S1x512x2048.size inb_S3x512x2048_S1x512x2048_1_0_0 _ _ (yb m c 3 1) squeezes_S1x512x2048_S512x2048.numel_eq.symm (read_head y1 y1.view.junk _ _ [] e)
    unfold segF.sl.dma23 segF.sl.Hf6_dst_w8 segF.sl.v985
    rw [l, up1]
    refine (congrArg (fun a => y1.view.read (Elt F) ((yM.access _).write (Elt F) _ a Finset.univ)) (qt55 m c (yb m c 3 1))).trans ?_
    exact slot_write yM ![1, 0, 0] S1x512x2048.size inb_S3x512x2048_S1x512x2048_1_0_0 _ _ (qt m c (yb m c 3 1)) _
  ihave HO := (owe_intro (F := F) c 0 _) $$ HO
  iapply Hk
  unfold postF
  isplitl [HO]; · iexact HO
  isplitl [B0]; · iapply (to_holds o0 c fullShare _ (qt m c (yb m c 0 0)) ((View.read_writes_whole _ _ _).trans h0)); iexact B0
  isplitl [Hf6_src]; · iapply (to_holds o1 c fullShare _ (qt m c (yb m c 0 1)) ((View.read_writes_whole _ _ _).trans h1)); iexact Hf6_src
  isplitl [B2]; · iapply (to_holds o2 c fullShare _ (qt m c (yb m c 1 0)) ((View.read_writes_whole _ _ _).trans h2)); iexact B2
  isplitl [B3]; · iapply (to_holds o3 c fullShare _ (qt m c (yb m c 1 1)) ((View.read_writes_whole _ _ _).trans h3)); iexact B3
  isplitl [B4]; · iapply (to_holds o4 c fullShare _ (qt m c (yb m c 2 0)) ((View.read_writes_whole _ _ _).trans h4)); iexact B4
  isplitl [Hz4]; · iapply (to_outF c 16 o5 (qt m c (yb m c 2 1)) y2 (o5.view.rep (yb m c 2 1)) _ (segF.sl.Y2_w6 m c) h5 h5); iexact Hz4
  isplitl [Hz2]; · iapply (to_outF c 14 o6 (qt m c (yb m c 3 0)) y0 (o6.view.rep (yb m c 3 0)) _ (segF.sl.Y0_w7 m c) h6 h6); iexact Hz2
  isplitl [Hz3]; · iapply (to_outF c 15 o7 (qt m c (yb m c 3 1)) y1 (o7.view.rep (yb m c 3 1)) _ (segF.sl.Hf6_dst_w8 m c) h7 h7); iexact Hz3
  isplitl [Hz5]; · iexact Hz5
  isplitl [Hf6]; · iexact Hf6
  iexact Hz7

end Cert.MeshProof

end
-- ==== Proof.Body.lean ====
/-
The body: its six stages one after another.
-/
module

public import proofs.«01_k».proof.Proof.SegA
public import proofs.«01_k».proof.Proof.SegB
public import proofs.«01_k».proof.Proof.SegC
public import proofs.«01_k».proof.Proof.SegD
public import proofs.«01_k».proof.Proof.SegF

@[expose] public section

set_option maxRecDepth 16384

noncomputable section

namespace Cert.MeshProof

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Bool (Elt F) ℕ UU ℕ

variable (m : (ℓ : Loc nD τ sig) → Buf (Elt F) ℓ)

/-! ## The result -/

/-- Device `c`'s result: each block of its product as its scale makes it. -/
def outV (c : Dev nD) : S4096x2048.Idx → Elt F .bf16 := fun i =>
  qt m c (yb m c ⟨(i (0 : Fin 2)).val / 1024, Nat.div_lt_of_lt_mul (i (0 : Fin 2)).isLt⟩ ⟨(i (0 : Fin 2)).val % 1024 / 512, Nat.div_lt_of_lt_mul (Nat.mod_lt _ (by decide))⟩)
    (fun a => ⟨(i a).val % S512x2048.size a, Nat.mod_lt _ (by fin_cases a <;> decide)⟩)

theorem out_read (c : Dev nD) (k : Fin 8) (h : ∀ a, (![512 * k.val, 0] : Fin 2 → ℕ) a + S512x2048.size a ≤ S4096x2048.size a) (d : Dev nD) (b : Fin 2) (hk : k.val = 2 * d.val + b.val) :
    (blk ![512 * k.val, 0] h).view.read (Elt F) (oM.view.rep (outV m c)) = qt m c (yb m c d b) := by
  funext y
  refine (congrFun (View.read_rep (Val := Elt F) oM.view (outV m c)) _).trans ?_
  have hb : b.val < 2 := b.isLt
  have h0 : (y (0 : Fin 2)).val < 512 := (y (0 : Fin 2)).isLt
  have h1 : (y (1 : Fin 2)).val < 2048 := (y (1 : Fin 2)).isLt
  have e : ∀ (D : Dev nD) (B : Fin 2) (Y : S512x2048.Idx), D = d → B = b → Y = y → qt m c (yb m c D B) Y = qt m c (yb m c d b) y := by
    rintro _ _ _ rfl rfl rfl; rfl
  unfold outV
  refine e _ _ _ (Fin.ext ?_) (Fin.ext ?_) (funext fun a => Fin.ext ?_)
  · show (512 * k.val + 1 * (y (0 : Fin 2)).val) / 1024 = d.val
    omega
  · show (512 * k.val + 1 * (y (0 : Fin 2)).val) % 1024 / 512 = b.val
    omega
  · fin_cases a
    · show (512 * k.val + 1 * (y (0 : Fin 2)).val) % 512 = (y (0 : Fin 2)).val
      omega
    · show (0 + 1 * (y (1 : Fin 2)).val) % 2048 = (y (1 : Fin 2)).val
      omega

theorem out_join (c : Dev nD) : iprop(holds o0 c fullShare (qt m c (yb m c 0 0)) ∗ holds o1 c fullShare (qt m c (yb m c 0 1)) ∗ holds o2 c fullShare (qt m c (yb m c 1 0))
      ∗ holds o3 c fullShare (qt m c (yb m c 1 1)) ∗ holds o4 c fullShare (qt m c (yb m c 2 0)) ∗ holds o5 c fullShare (qt m c (yb m c 2 1))
      ∗ holds o6 c fullShare (qt m c (yb m c 3 0)) ∗ holds o7 c fullShare (qt m c (yb m c 3 1)))
    ⊢ (atW oM c (oM.view.rep (outV m c)) : sProp 𝕄) := by
  refine .trans ?_ (Entails.of_eq (o_pieces c fullShare _).symm)
  iintro ⟨H0, H1, H2, H3, H4, H5, H6, H7⟩
  isplitl [H0]; · iapply (of_holds o0 c fullShare (oM.view.rep (outV m c)) _ (out_read m c 0 _ 0 0 (by decide))); iexact H0
  isplitl [H1]; · iapply (of_holds o1 c fullShare (oM.view.rep (outV m c)) _ (out_read m c 1 _ 0 1 (by decide))); iexact H1
  isplitl [H2]; · iapply (of_holds o2 c fullShare (oM.view.rep (outV m c)) _ (out_read m c 2 _ 1 0 (by decide))); iexact H2
  isplitl [H3]; · iapply (of_holds o3 c fullShare (oM.view.rep (outV m c)) _ (out_read m c 3 _ 1 1 (by decide))); iexact H3
  isplitl [H4]; · iapply (of_holds o4 c fullShare (oM.view.rep (outV m c)) _ (out_read m c 4 _ 2 0 (by decide))); iexact H4
  isplitl [H5]; · iapply (of_holds o5 c fullShare (oM.view.rep (outV m c)) _ (out_read m c 5 _ 2 1 (by decide))); iexact H5
  isplitl [H6]; · iapply (of_holds o6 c fullShare (oM.view.rep (outV m c)) _ (out_read m c 6 _ 3 0 (by decide))); iexact H6
  iapply (of_holds o7 c fullShare (oM.view.rep (outV m c)) _ (out_read m c 7 _ 3 1 (by decide))); iexact H7

/-! ## The body -/

/-- A device's program over `F`. -/
abbrev DevProg (F : FTy → Type) [FloatOps F] := Prog (TpuEff nD τ sig (Elt F) Λ₀ .tc) PUnit

/-- The waits that end the last printed part. -/
def kG : DevProg F := do
  Prog.lift (.waitDma2 (((cc0_scratch8.slice (Rect.unit (s := S8) ![4] S1.size inb_S8_S1_4)).squeeze S_ squeezes_S1_S_).sem) y2 o5
    ((Memref.isWhole_whole _).wordExact_slice rfl _ wordsbf16_S3x512x2048_S1x512x2048_2_0_0 |>.reshape _ _) ((Memref.isWhole_whole _).wordExact_slice rfl _ wordsbf16_S4096x2048_S512x2048_2560_0))
  Prog.lift (.waitDma2 (((cc0_scratch8.slice (Rect.unit (s := S8) ![2] S1.size inb_S8_S1_2)).squeeze S_ squeezes_S1_S_).sem) y0 o6
    ((Memref.isWhole_whole _).wordExact_slice rfl _ wordsbf16_S3x512x2048_S1x512x2048_0_0_0 |>.reshape _ _) ((Memref.isWhole_whole _).wordExact_slice rfl _ wordsbf16_S4096x2048_S512x2048_3072_0))
  pure ⟨⟩
/-- The program from each stage on. -/
def kF (r : Σ' (_ : F .f32) (_ : F .f32) (_ : FVec F S512x2048 .f32), FVec F S512x2048 .f32) : DevProg F :=
  onBufs (k0_part27 (F := F)) r.1 r.2.2.1 r.2.2.2 >>= fun v763 =>
  onBufs (k0_part28 (F := F)) r.1 r.2.1 v763 >>= fun _ =>
  onBufs (k0_part29 (F := F)) r.1 r.2.1 >>= fun _ => onBufs (k0_part30 (F := F)) r.1 r.2.1 >>= fun _ =>
  onBufs (k0_part31 (F := F)) r.2.1 >>= fun r' => onBufs (k0_part32 (F := F)) r.1 r'.1 r'.2.1 r'.2.2 >>= fun _ =>
  onBufs (k0_part33 (F := F)) r.1 r.2.1 >>= fun _ => onBufs (k0_part34 (F := F)) r.1 r.2.1 >>= fun _ =>
  onBufs (k0_part35 (F := F)) r.1 r.2.1 >>= fun _ => kG
def kE (c : Dev nD) (v2 v568 : BitVec 32) : DevProg F :=
  onBufs (k0_part21 (F := F)) c v2 >>= fun r => onBufs (k0_part22 (F := F)) c r.2.1 r.2.2.1 r.2.2.2.1 r.2.2.2.2.1 r.2.2.2.2.2 >>= fun v610 =>
  onBufs (k0_part23 (F := F)) c >>= fun _ => onBufs (k0_part24 (F := F)) c >>= fun c1 =>
  onBufs (k0_part25 (F := F)) v568 r.1 c1 >>= fun _ => onBufs (k0_part26 (F := F)) v610 >>= kF
def kD (c : Dev nD) (v2 v13 v24 : BitVec 32) (v366 : F .f32) : DevProg F :=
  onBufs (k0_part15 (F := F)) c v366 >>= fun r => onBufs (k0_part16 (F := F)) c v24 r.1 >>= fun _ =>
  onBufs (k0_part17 (F := F)) c v2 r.2 >>= fun r => onBufs (k0_part18 (F := F)) c v13 r.1 r.2.2 >>= fun _ =>
  onBufs (k0_part19 (F := F)) c v2 r.2.1 >>= fun r => onBufs (k0_part20 (F := F)) c v2 r.1 r.2.1 r.2.2 >>= kE c v2
def kC (c : Dev nD) (v2 v13 v24 : BitVec 32) (q : Σ' (_ : F .f32), FVec F S512x2048 .bf16) : DevProg F :=
  onBufs (k0_part9 (F := F)) c v2 v24 q.2 >>= fun _ => onBufs (k0_part10 (F := F)) c q.1 >>= fun r =>
  onBufs (k0_part11 (F := F)) c v13 r.2 >>= fun _ => onBufs (k0_part12 (F := F)) c v24 r.1 >>= fun v321 => onBufs (k0_part13 (F := F)) c v321 >>= fun r' =>
  onBufs (k0_part14 (F := F)) c v13 r'.1 >>= fun _ => kD c v2 v13 v24 r'.2
def kB (r : Σ' (_ : Dev nD) (_ : BitVec 32) (_ : BitVec 32), BitVec 32) : DevProg F :=
  onBufs (k0_part3 (F := F)) r.1 r.2.2.1 >>= fun _ => onBufs (k0_part4 (F := F)) r.1 r.2.2.1 r.2.2.2 >>= fun _ =>
  onBufs (k0_part5 (F := F)) >>= fun _ => onBufs (k0_part6 (F := F)) >>= fun _ => onBufs (k0_part7 (F := F)) >>= fun v194 =>
  onBufs (k0_part8 (F := F)) r.1 r.2.1 v194 >>= kC r.1 r.2.1 r.2.2.1 r.2.2.2
def kA : DevProg F := onBufs (k0_part1 (F := F)) >>= fun r => onBufs (k0_part2 (F := F)) r.1 r.2.2.1 r.2.2.2 >>= fun _ => kB r
def kZ : DevProg F := do
  Prog.lift (.waitDma2 (((cc0_scratch8.slice (Rect.unit (s := S8) ![3] S1.size inb_S8_S1_3)).squeeze S_ squeezes_S1_S_).sem) y1 o7
    ((Memref.isWhole_whole _).wordExact_slice rfl _ wordsbf16_S3x512x2048_S1x512x2048_1_0_0 |>.reshape _ _) ((Memref.isWhole_whole _).wordExact_slice rfl _ wordsbf16_S4096x2048_S512x2048_3584_0))
  pure ⟨⟩

theorem part36_eq : onBufs (k0_part36 (F := F)) = kA := by
  rw [k0_part36_eq_skeleton]; rfl
theorem body_eq : onBufs (cc0_body (F := F)) = (kA >>= fun _ => kZ) := by
  rw [← part36_eq, cc0_body_eq_skeleton]; rfl

theorem runF (K : Dev nD × Fin 19 → ℕ) (c : Dev nD) (Q : PUnit → sProp 𝕄) : iprop(env m K ∗ preF m c ∗ (postF m c -∗ wpK c kG Q))
    ⊢ wpK c (kF ⟨k0_pay42 (mall m c), k0_pay43 (mall m c), k0_pay44 (mall m c) (upy (yb m c 0 0)), k0_pay45 (mall m c) (upy (yb m c 0 0))⟩) Q := segF m K c Q kG
theorem runE (K : Dev nD × Fin 19 → ℕ) (c : Dev nD) (Q : PUnit → sProp 𝕄) (v2 v568 : BitVec 32) : iprop(env m K ∗ preE m c ∗ (postE m c -∗
      wpK c (kF ⟨k0_pay42 (mall m c), k0_pay43 (mall m c), k0_pay44 (mall m c) (upy (yb m c 0 0)), k0_pay45 (mall m c) (upy (yb m c 0 0))⟩) Q))
    ⊢ wpK c (kE c v2 v568) Q := segE m K c Q v2 v568 kF
theorem runD (K : Dev nD × Fin 19 → ℕ) (c : Dev nD) (Q : PUnit → sProp 𝕄) (v2 v13 v24 : BitVec 32) : iprop(env m K ∗ preD m c ∗ (∀ v, postD m c -∗ wpK c (kE c v2 v) Q))
    ⊢ wpK c (kD c v2 v13 v24 (mx4 m c)) Q := segD m K c Q v2 v13 v24 (kE c v2)
theorem runC (K : Dev nD × Fin 19 → ℕ) (c : Dev nD) (Q : PUnit → sProp 𝕄) (v2 v13 v24 : BitVec 32) : iprop(env m K ∗ preC m c ∗ (postC m c -∗ wpK c (kD c v2 v13 v24 (mx4 m c)) Q))
    ⊢ wpK c (kC c v2 v13 v24 ⟨mx1 m c, k0_pay18 (xh m c 1) (wbf m c)⟩) Q := segC m K c Q v2 v13 v24 (kD c v2 v13 v24)
theorem runB (K : Dev nD × Fin 19 → ℕ) (c : Dev nD) (Q : PUnit → sProp 𝕄) (v : Σ' (_ : BitVec 32) (_ : BitVec 32), BitVec 32) : iprop(env m K ∗ preB m c ∗ (postB m c -∗
      wpK c (kC c v.1 v.2.1 v.2.2 ⟨mx1 m c, k0_pay18 (xh m c 1) (wbf m c)⟩) Q))
    ⊢ wpK c (kB ⟨c, v⟩) Q := segB m K c Q v.1 v.2.1 v.2.2 (kC c v.1 v.2.1 v.2.2)
theorem runA (K : Dev nD × Fin 19 → ℕ) (c : Dev nD) (Q : PUnit → sProp 𝕄) : iprop(env m K ∗ preA m c ∗ (∀ v : Σ' (_ : BitVec 32) (_ : BitVec 32), BitVec 32, postA m c -∗ wpK c (kB ⟨c, v⟩) Q))
    ⊢ wpK c kA Q := segA m K c Q (fun r _ => kB r)

/-! ## What the body starts from and what it leaves -/

/-- Where the device stands at its shared semaphores; -/
def todos (c : Dev nD) : sProp 𝕄 := iprop(todo c 0 ∗ todo c 1 ∗ todo c 2 ∗ todo c 3 ∗ todo c 4 ∗ todo c 5 ∗ todo c 6 ∗ todo c 7 ∗ todo c 8 ∗ todo c 9 ∗ todo c 10 ∗ todo c 11 ∗ todo c 12 ∗ todo c 13 ∗ todo c 14 ∗ todo c 15 ∗ todo c 16 ∗ todo c 17 ∗ todo c 18)
/-- the tokens of the duties it does; -/
def toks (c : Dev nD) : sProp 𝕄 :=
  iprop(tok (prv c) 0 true ∗ tok (nxt c) 0 false ∗ tok c 1 false ∗ tok c 2 false ∗ tok c 3 false ∗ tok c 4 false ∗ tok c 5 false ∗ tok c 6 false ∗ tok (nxt c) 7 false ∗ tok (nxt c) 8 false ∗ tok (prv c) 9 false ∗ tok (prv c) 10 false ∗ tok (nxt c) 11 false ∗ tok (prv c) 12 false ∗ tok c 13 false ∗ tok c 14 false ∗ tok c 15 false ∗ tok (nxt c) 16 false ∗ tok (nxt (nxt c)) 17 false ∗ tok (prv c) 18 false)
/-- what it may take; -/
def creds (c : Dev nD) : sProp 𝕄 := iprop(credit c 0 2 ∗ credit c 7 N ∗ credit c 8 N ∗ credit c 9 N ∗ credit c 10 N ∗ credit c 11 N ∗ credit c 12 N ∗ credit c 16 NA ∗ credit c 17 NA ∗ credit c 18 NA)
/-- its own eight semaphores at zero; -/
def zeros (c : Dev nD) : sProp 𝕄 := iprop(zs c 12 ∗ zs c 13 ∗ zs c 14 ∗ zs c 15 ∗ zs c 16 ∗ zs c 17 ∗ zs c 18 ∗ zs c 19)
/-- its transfer semaphores at zero. -/
def zeroAll (c : Dev nD) : sProp 𝕄 := iprop(zs c 0 ∗ zs c 1 ∗ zs c 2 ∗ zs c 3 ∗ zs c 4 ∗ zs c 5 ∗ zs c 6 ∗ zs c 7 ∗ zs c 8 ∗ zs c 9 ∗ zs c 10 ∗ zs c 11 ∗ zs c 12 ∗ zs c 13 ∗ zs c 14 ∗ zs c 15 ∗ zs c 16 ∗ zs c 17 ∗ zs c 18 ∗ zs c 19 ∗ zs c 20 ∗ zs c 21 ∗ zs c 22 ∗ zs c 23 ∗ zs c 24 ∗ zs c 25)
/-- Its scratch buffers. -/
def scratch (c : Dev nD) : sProp 𝕄 := iprop(anyW cM c ∗ anyW xM c ∗ anyW wM c ∗ anyW sM c ∗ anyW f0M c ∗ anyW f1M c ∗ anyW yM c ∗ anyW mM c)

theorem pay_true (c : Dev nD) : pay m c true 0 = iprop(anyAt c00 (nxt c) ∗ anyAt c01 (nxt c) ∗ anyAt c20 (nxt c) ∗ anyAt m1 (nxt c)) := rfl
theorem pay_false (c : Dev nD) : pay m c false 0 = iprop(anyAt c10 (prv c) ∗ anyAt c11 (prv c) ∗ anyAt c21 (prv c) ∗ anyAt m3 (prv c)) := rfl

set_option maxHeartbeats 8000000 in
set_option sl_exec.dmaWindow true in
theorem body_run (K : Dev nD × Fin 19 → ℕ) (c : Dev nD) (Q : PUnit → sProp 𝕄) :
    iprop(env m K ∗ owe c 11 ∗ todos c ∗ toks c ∗ creds c ∗ zeros c ∗ argA m c ∗ argB m c ∗ anyW oM c ∗ scratch c
      ∗ ((owe c 0 ∗ zeroAll c ∗ semVal (kcell (c, 0)) 0 ∗ argA m c ∗ argB m c ∗ atW oM c (oM.view.rep (outV m c)) ∗ scratch c) -∗ Q ⟨⟩))
      ⊢ wpK c (onBufs (cc0_body (F := F))) Q := by
  rw [body_eq]
  unfold wpK todos toks creds zeros zeroAll scratch
  rw [wp_bind]
  iintro ⟨#HE, HO, ⟨D0, D1, D2, D3, D4, D5, D6, D7, D8, D9, D10, D11, D12, D13, D14, D15, D16, D17, D18⟩, ⟨T0t, T0f, T1, T2, T3, T4, T5, T6, T7, T8, T9, T10, T11, T12, T13, T14, T15, T16, T17, T18⟩, ⟨K0, K7, K8, K9, K10, K11, K12, K16, K17, K18⟩, ⟨Z12, Z13, Z14, Z15, Z16, Z17, Z18, Z19⟩, HA, HB, Ho, ⟨Hc, Hx, Hw, Hs, Hf0, Hf1, Hy, Hm⟩, Hk⟩
  ihave Ho := (out_open c) $$ Ho
  icases Ho with ⟨Bw0, Bw1, Bp0, Bp1, Bn0, Bn1, Bq0, Bq1⟩
  ihave Hc := (c_split c) $$ Hc
  icases Hc with ⟨C00, C01, C10, C11, C20, C21⟩
  ihave Hx := (x_split c) $$ Hx
  icases Hx with ⟨X0, X1⟩
  ihave Hs := (s_split c) $$ Hs
  icases Hs with ⟨S0, S1⟩
  ihave Hy := (y_split c) $$ Hy
  icases Hy with ⟨Y0, Y1, Y2⟩
  ihave Hm := (m_split c) $$ Hm
  icases Hm with ⟨M0, M1, M2, M3⟩
  ihave PA : iprop(pay m (prv c) true 0) $$ [C00 C01 C20 M1]
  · rw [pay_true, nxt_prv]
    isplitl [C00]; · iexact C00
    isplitl [C01]; · iexact C01
    isplitl [C20]; · iexact C20
    iexact M1
  ihave PB : iprop(pay m (nxt c) false 0) $$ [C10 C11 C21 M3]
  · rw [pay_false, prv_nxt]
    isplitl [C10]; · iexact C10
    isplitl [C11]; · iexact C11
    isplitl [C21]; · iexact C21
    iexact M3
  iapply (runA m K c _)
  isplitr; · iexact HE
  isplitl [HO HA X0 Hf0 Hf1 T0t T0f PA PB K0 D0 Z12 Z13]
  · unfold preA
    isplitl [HO]; · iexact HO
    isplitl [HA]; · iexact HA
    isplitl [X0]; · iexact X0
    isplitl [Hf0]; · iexact Hf0
    isplitl [Hf1]; · iexact Hf1
    isplitl [T0t]; · iexact T0t
    isplitl [T0f]; · iexact T0f
    isplitl [PA]; · iexact PA
    isplitl [PB]; · iexact PB
    isplitl [K0]; · iexact K0
    isplitl [D0]; · iexact D0
    isplitl [Z12]; · iexact Z12
    iexact Z13
  iintro %v
  unfold postA
  iintro ⟨HO, HA, X0, Hf0, Hf1, PA, PB, D0, Z12, Z13⟩
  iapply (runB m K c _ v)
  isplitr; · iexact HE
  isplitl [HO HA HB X0 X1 Hw Hf0 Hf1 PA PB M2 Y0 Bw0 T1 T2 T3 T4 T7 T9 T8 T10 Z12 Z13 Z14]
  · unfold preB
    isplitl [HO]; · iexact HO
    isplitl [HA]; · iexact HA
    isplitl [HB]; · iexact HB
    isplitl [X0]; · iexact X0
    isplitl [X1]; · iexact X1
    isplitl [Hw]; · iexact Hw
    isplitl [Hf0]; · iexact Hf0
    isplitl [Hf1]; · iexact Hf1
    isplitl [PA]; · iexact PA
    isplitl [PB]; · iexact PB
    isplitl [M2]; · iexact M2
    isplitl [Y0]; · iexact Y0
    isplitl [Bw0]; · iexact Bw0
    isplitl [T1]; · iexact T1
    isplitl [T2]; · iexact T2
    isplitl [T3]; · iexact T3
    isplitl [T4]; · iexact T4
    isplitl [T7]; · iexact T7
    isplitl [T9]; · iexact T9
    isplitl [T8]; · iexact T8
    isplitl [T10]; · iexact T10
    isplitl [Z12]; · iexact Z12
    isplitl [Z13]; · iexact Z13
    iexact Z14
  unfold postB
  iintro ⟨HO, HA, HB, X0, X1, Hw, Hf0, Hf1, R21, RM3, R20, RM1, K1, K2, K3, K4, Z12, Z13, O14⟩
  iapply (runC m K c _ _ _ _)
  isplitr; · iexact HE
  isplitl [HO Hw Y1 S0 S1 Bw1 Bp0 Bn0 Bp1 R20 K7 K8 K9 K10 D7 D8 D9 D10 T5 T11 Z12 Z13 Z15 O14]
  · unfold preC
    isplitl [HO]; · iexact HO
    isplitl [Hw]; · iexact Hw
    isplitl [Y1]; · iexact Y1
    isplitl [S0]; · iexact S0
    isplitl [S1]; · iexact S1
    isplitl [Bw1]; · iexact Bw1
    isplitl [Bp0]; · iexact Bp0
    isplitl [Bn0]; · iexact Bn0
    isplitl [Bp1]; · iexact Bp1
    isplitl [R20]; · iexact R20
    isplitl [K7]; · iexact K7
    isplitl [K8]; · iexact K8
    isplitl [K9]; · iexact K9
    isplitl [K10]; · iexact K10
    isplitl [D7]; · iexact D7
    isplitl [D8]; · iexact D8
    isplitl [D9]; · iexact D9
    isplitl [D10]; · iexact D10
    isplitl [T5]; · iexact T5
    isplitl [T11]; · iexact T11
    isplitl [Z12]; · iexact Z12
    isplitl [Z13]; · iexact Z13
    isplitl [Z15]; · iexact Z15
    iexact O14
  unfold postC
  iintro ⟨HO, Hw, S0, S1, C00, C01, C10, C11, K5, D7, D8, D9, D10, Bw0, Bw1, Bp0, Z12, Z13, O14, O15⟩
  iapply (runD m K c _ _ _ _)
  isplitr; · iexact HE
  isplitl [HO Hw S0 S1 Bn1 Bq0 Bq1 M0 C11 R21 K11 K12 D11 D12 T6 T12 Z12 Z13 O14 O15]
  · unfold preD
    isplitl [HO]; · iexact HO
    isplitl [Hw]; · iexact Hw
    isplitl [S0]; · iexact S0
    isplitl [S1]; · iexact S1
    isplitl [Bn1]; · iexact Bn1
    isplitl [Bq0]; · iexact Bq0
    isplitl [Bq1]; · iexact Bq1
    isplitl [M0]; · iexact M0
    isplitl [C11]; · iexact C11
    isplitl [R21]; · iexact R21
    isplitl [K11]; · iexact K11
    isplitl [K12]; · iexact K12
    isplitl [D11]; · iexact D11
    isplitl [D12]; · iexact D12
    isplitl [T6]; · iexact T6
    isplitl [T12]; · iexact T12
    isplitl [Z12]; · iexact Z12
    isplitl [Z13]; · iexact Z13
    isplitl [O14]; · iexact O14
    iexact O15
  iintro %v568
  unfold postD
  iintro ⟨HO, Hw, S0, S1, M0, C11, C20, C21, RM2, K6, D11, D12, Bp1, Bn0, Bn1, Z12, Z13, O14, O15⟩
  iapply (runE m K c _ _ _)
  isplitr; · iexact HE
  isplitl [HO M0 RM1 RM2 RM3 K1 K2 K3 K4 K5 K6 K16 K17 K18 D1 D2 D3 D4 D5 D6 D13 D14 D15 D16 D17 D18 T13 T14 T15 T16 T17 T18 Bw0 Bw1 Bp0 Bp1 Bn0 Bn1 O14 O15 Z17 Z18]
  · unfold preE
    isplitl [HO]; · iexact HO
    isplitl [M0]; · iexact M0
    isplitl [RM1]; · iexact RM1
    isplitl [RM2]; · iexact RM2
    isplitl [RM3]; · iexact RM3
    isplitl [K1]; · iexact K1
    isplitl [K2]; · iexact K2
    isplitl [K3]; · iexact K3
    isplitl [K4]; · iexact K4
    isplitl [K5]; · iexact K5
    isplitl [K6]; · iexact K6
    isplitl [K16]; · iexact K16
    isplitl [K17]; · iexact K17
    isplitl [K18]; · iexact K18
    isplitl [D1]; · iexact D1
    isplitl [D2]; · iexact D2
    isplitl [D3]; · iexact D3
    isplitl [D4]; · iexact D4
    isplitl [D5]; · iexact D5
    isplitl [D6]; · iexact D6
    isplitl [D13]; · iexact D13
    isplitl [D14]; · iexact D14
    isplitl [D15]; · iexact D15
    isplitl [D16]; · iexact D16
    isplitl [D17]; · iexact D17
    isplitl [D18]; · iexact D18
    isplitl [T13]; · iexact T13
    isplitl [T14]; · iexact T14
    isplitl [T15]; · iexact T15
    isplitl [T16]; · iexact T16
    isplitl [T17]; · iexact T17
    isplitl [T18]; · iexact T18
    isplitl [Bw0]; · iexact Bw0
    isplitl [Bw1]; · iexact Bw1
    isplitl [Bp0]; · iexact Bp0
    isplitl [Bp1]; · iexact Bp1
    isplitl [Bn0]; · iexact Bn0
    isplitl [Bn1]; · iexact Bn1
    isplitl [O14]; · iexact O14
    isplitl [O15]; · iexact O15
    isplitl [Z17]; · iexact Z17
    iexact Z18
  unfold postE
  iintro ⟨HO, Hm, X0a, X1a, X0b, X1b, C00b, C11b, D1, D2, D3, D4, D5, D6, D13, D14, D15, D16, D17, D18, B0, B2, B3, B4, B5, B6, B7, Y0, O18, Z14, Z15, Z17⟩
  iapply (runF m K c _)
  isplitr; · iexact HE
  isplitl [HO B0 B2 B3 B4 B5 B6 B7 Y0 O18 Y2 Z14 Z15 Z16 Z17 Z19]
  · unfold preF
    isplitl [HO]; · iexact HO
    isplitl [B0]; · iexact B0
    isplitl [B2]; · iexact B2
    isplitl [B3]; · iexact B3
    isplitl [B4]; · iexact B4
    isplitl [B5]; · iexact B5
    isplitl [B6]; · iexact B6
    isplitl [B7]; · iexact B7
    isplitl [Y0]; · iexact Y0
    isplitl [O18]; · iexact O18
    isplitl [Y2]; · iexact Y2
    isplitl [Z14]; · iexact Z14
    isplitl [Z15]; · iexact Z15
    isplitl [Z16]; · iexact Z16
    isplitl [Z17]; · iexact Z17
    iexact Z19
  unfold postF
  iintro ⟨HO, B0, B1, B2, B3, B4, O16, O14, O15, Z17, Z18, Z19⟩
  imod (close_cell m K c 0) $$ [D0] with D0
  · isplitr; · iexact HE
    iexact D0
  imod (close_cell m K c 1) $$ [D1] with D1
  · isplitr; · iexact HE
    iexact D1
  imod (close_cell m K c 2) $$ [D2] with D2
  · isplitr; · iexact HE
    iexact D2
  imod (close_cell m K c 3) $$ [D3] with D3
  · isplitr; · iexact HE
    iexact D3
  imod (close_cell m K c 4) $$ [D4] with D4
  · isplitr; · iexact HE
    iexact D4
  imod (close_cell m K c 5) $$ [D5] with D5
  · isplitr; · iexact HE
    iexact D5
  imod (close_cell m K c 6) $$ [D6] with D6
  · isplitr; · iexact HE
    iexact D6
  imod (close_cell m K c 7) $$ [D7] with D7
  · isplitr; · iexact HE
    iexact D7
  imod (close_cell m K c 8) $$ [D8] with D8
  · isplitr; · iexact HE
    iexact D8
  imod (close_cell m K c 9) $$ [D9] with D9
  · isplitr; · iexact HE
    iexact D9
  imod (close_cell m K c 10) $$ [D10] with D10
  · isplitr; · iexact HE
    iexact D10
  imod (close_cell m K c 11) $$ [D11] with D11
  · isplitr; · iexact HE
    iexact D11
  imod (close_cell m K c 12) $$ [D12] with D12
  · isplitr; · iexact HE
    iexact D12
  imod (close_cell m K c 13) $$ [D13] with D13
  · isplitr; · iexact HE
    iexact D13
  imod (close_cell m K c 14) $$ [D14] with D14
  · isplitr; · iexact HE
    iexact D14
  imod (close_cell m K c 15) $$ [D15] with D15
  · isplitr; · iexact HE
    iexact D15
  imod (close_cell m K c 16) $$ [D16] with D16
  · isplitr; · iexact HE
    iexact D16
  imod (close_cell m K c 17) $$ [D17] with D17
  · isplitr; · iexact HE
    iexact D17
  imod (close_cell m K c 18) $$ [D18] with D18
  · isplitr; · iexact HE
    iexact D18
  ihave #HL := (env_lev m K) $$ HE
  ihave HO := (owe_open (F := F) c 0) $$ HO
  icases HO with ⟨%W0, HO⟩
  ihave #HW0 := (mayWaits_own (F := F) c 0 (by decide)) $$ HL
  unfold kG
  sl_exec
  ihave HO := (owe_intro (F := F) c 0 _) $$ HO
  ihave X0a := (holds_halves x0 c fullShare.right _).2 $$ [X0a X0b]
  · isplitl [X0a]; · iexact X0a
    iexact X0b
  ihave X0 := (holds_halves x0 c fullShare _).2 $$ [X0 X0a]
  · isplitl [X0]; · iexact X0
    iexact X0a
  ihave X1a := (holds_halves x1 c fullShare.right _).2 $$ [X1a X1b]
  · isplitl [X1a]; · iexact X1a
    iexact X1b
  ihave X1 := (holds_halves x1 c fullShare _).2 $$ [X1 X1a]
  · isplitl [X1]; · iexact X1
    iexact X1a
  ihave C00 := (holds_halves c00 c fullShare _).2 $$ [C00 C00b]
  · isplitl [C00]; · iexact C00
    iexact C00b
  ihave C11 := (holds_halves c11 c fullShare _).2 $$ [C11 C11b]
  · isplitl [C11]; · iexact C11
    iexact C11b
  ihave Hc := (c_join c) $$ [C00 C01 C10 C11 C20 C21]
  · isplitl [C00]; · iapply (to_any c00 c _); iexact C00
    isplitl [C01]; · iapply (to_any c01 c _); iexact C01
    isplitl [C10]; · iapply (to_any c10 c _); iexact C10
    isplitl [C11]; · iapply (to_any c11 c _); iexact C11
    isplitl [C20]; · iapply (to_any c20 c _); iexact C20
    iapply (to_any c21 c _); iexact C21
  ihave Hx := (x_join c) $$ [X0 X1]
  · isplitl [X0]; · iapply (to_any x0 c _); iexact X0
    iapply (to_any x1 c _); iexact X1
  ihave Hs := (s_join c) $$ [S0 S1]
  · isplitl [S0]; · iexact S0
    iexact S1
  ihave Hy := (y_join c) $$ [O14_src O15_src O16_src]
  · isplitl [O14_src]; · iapply (to_any y0 c _); iexact O14_src
    isplitl [O15_src]; · iapply (to_any y1 c _); iexact O15_src
    iapply (to_any y2 c _); iexact O16_src
  ihave Ho := (out_join m c) $$ [B0 B1 B2 B3 B4 O16_dst O14_dst O15_dst]
  · isplitl [B0]; · iexact B0
    isplitl [B1]; · iexact B1
    isplitl [B2]; · iexact B2
    isplitl [B3]; · iexact B3
    isplitl [B4]; · iexact B4
    isplitl [O16_dst]; · iexact O16_dst
    isplitl [O14_dst]; · iexact O14_dst
    iexact O15_dst
  rw [wp_ret]
  imodintro
  iapply Hk
  isplitl [HO]; · iexact HO
  isplitl [D1 D2 D3 D4 D5 D6 D7 D8 D9 D10 D11 D12 Z12 Z13 O14 O15 O16 Z17 Z18 Z19 D13 D14 D15 D16 D17 D18]
  · isplitl [D1]; · iexact D1
    isplitl [D2]; · iexact D2
    isplitl [D3]; · iexact D3
    isplitl [D4]; · iexact D4
    isplitl [D5]; · iexact D5
    isplitl [D6]; · iexact D6
    isplitl [D7]; · iexact D7
    isplitl [D8]; · iexact D8
    isplitl [D9]; · iexact D9
    isplitl [D10]; · iexact D10
    isplitl [D11]; · iexact D11
    isplitl [D12]; · iexact D12
    isplitl [Z12]; · iexact Z12
    isplitl [Z13]; · iexact Z13
    isplitl [O14]; · iexact O14
    isplitl [O15]; · iexact O15
    isplitl [O16]; · iexact O16
    isplitl [Z17]; · iexact Z17
    isplitl [Z18]; · iexact Z18
    isplitl [Z19]; · iexact Z19
    isplitl [D13]; · iexact D13
    isplitl [D14]; · iexact D14
    isplitl [D15]; · iexact D15
    isplitl [D16]; · iexact D16
    isplitl [D17]; · iexact D17
    iexact D18
  isplitl [D0]; · iexact D0
  isplitl [HA]; · iexact HA
  isplitl [HB]; · iexact HB
  isplitl [Ho]; · iexact Ho
  isplitl [Hc]; · iexact Hc
  isplitl [Hx]; · iexact Hx
  isplitl [Hw]; · iapply (to_anyW wM c _); iexact Hw
  isplitl [Hs]; · iexact Hs
  isplitl [Hf0]; · iexact Hf0
  isplitl [Hf1]; · iexact Hf1
  isplitl [Hy]; · iexact Hy
  iapply (to_anyW mM c _); iexact Hm

end Cert.MeshProof

end
-- ==== Proof.Launch.lean ====
/-
The launch: the cells allocated, the tokens and the credit dealt, and the run of the four devices.
-/
module

public import proofs.«01_k».proof.Proof.Body
public import Idealize.ShloMosaic.Lib.Pipeline.CollectiveSegs

@[expose] public section

set_option maxRecDepth 16384

noncomputable section

namespace Cert.MeshProof

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Bool (Elt F) ℕ UU ℕ

variable (m : (ℓ : Loc nD τ sig) → Buf (Elt F) ℓ) (ρ : Dev nD → PrngReg)

/-! ## The pipeline's data: one point, no window -/

/-- The kernel's own semaphores: its transfer semaphores. -/
def osem (k : Fin 26) : SemLoc sig := .dma k
theorem ownSemFacts : Pipeline.OwnSemFacts cfg0.spec osem := by decide

/-- The scratch buffers the region allocates. -/
def scr (c : Dev nD) : sProp 𝕄 := iprop(anyW xM c ∗ anyW wM c ∗ anyW sM c ∗ anyW f0M c ∗ anyW f1M c ∗ anyW yM c ∗ anyW mM c)
/-- What the launch's global step makes for a device, -/
def G' (c : Dev nD) : sProp 𝕄 := iprop(∃ K : Dev nD × Fin 19 → ℕ, (∀ p : Dev nD × Fin 19, cellInv ER (Rd m) (K p) (kcell p) ∗ reached ER (kcell p) 0) ∗ todos c ∗ toks c ∗ zeros c)
/-- and what a device starts from. -/
def start (c : Dev nD) : sProp 𝕄 := iprop((∃ K, env m K ∗ todos c ∗ toks c ∗ zeros c) ∗ creds c ∗ argA m c ∗ argB m c ∗ anyW oM c ∗ anyW cM c)
def ends (c : Dev nD) : sProp 𝕄 := iprop(semVal (kcell (c, 0)) 0 ∗ argA m c ∗ argB m c ∗ atW oM c (oM.view.rep (outV m c)))
def Φ₀ (c : Dev nD) : sProp 𝕄 := iprop(start m c ∗ scr c)
def Φ₁ (c : Dev nD) : sProp 𝕄 := iprop(ends m c ∗ zeroAll c ∗ scratch c)

def dats (_ : Fin 1) (c : Dev nD) : Dat τ (Elt F) Bool ℕ UU ℕ cfg0 c where
  A w := w.elim0
  after w _ := w.elim0
  Φ t := match t with
    | ⟨0, _⟩ => Φ₀ m c
    | ⟨_ + 1, _⟩ => Φ₁ m c
  q _ := fullShare
  owed t := match t with
    | ⟨0, _⟩ => owed c 11
    | ⟨_ + 1, _⟩ => 0

theorem no_windows (Φ : Fin 0 → sProp 𝕄) : bigSep Finset.univ Φ = iprop(emp) := bigSep_univ_eq_bigSepL [] (by decide) (by decide) Φ

theorem owesAt_any (c : Dev nD) : (dats m 0 c).owesAt false t0_0.castSucc ⊢ (owe c 11 : sProp 𝕄) := by
  unfold Dat.owesAt Pipeline.owesWithin
  iintro ⟨%W, -, H⟩
  iapply (owe_intro (F := F) c 11 W); iexact H

theorem to_owesAt (t : Fin (cfg0.N + 1)) (c : Dev nD) (W : Waits sig Bool) : (owes (c : Thread nD τ) ((dats m 0 c).owed t) W : sProp 𝕄) ⊢ (dats m 0 c).owesAt false t := by
  unfold Dat.owesAt Pipeline.owesWithin
  iintro H
  iexists W
  isplitr
  · ipureintro; exact fun _ _ => Or.inl trivial
  · iexact H

theorem body_point (c : Dev nD) (Q : PUnit → sProp 𝕄) (hQ : iprop(Φ₁ m c ∗ (dats m 0 c).owesAt false t0_0.succ ∗ emp) ⊢ Q ⟨⟩) : iprop(Φ₀ m c ∗ (dats m 0 c).owesAt false t0_0.castSucc ∗ emp)
    ⊢ wpK c (onBufs (cc0_body (F := F))) Q := by
  unfold Φ₀ start scr
  iintro ⟨⟨⟨⟨%K, #HE, Htd, Htk, Hz⟩, Hcr, HA, HB, Ho, Hc⟩, Hs⟩, HO, -⟩
  iapply (body_run m K c _)
  isplitr; · iexact HE
  isplitl [HO]; · iapply (owesAt_any m c); iexact HO
  isplitl [Htd]; · iexact Htd
  isplitl [Htk]; · iexact Htk
  isplitl [Hcr]; · iexact Hcr
  isplitl [Hz]; · iexact Hz
  isplitl [HA]; · iexact HA
  isplitl [HB]; · iexact HB
  isplitl [Ho]; · iexact Ho
  isplitl [Hc Hs]
  · unfold scratch; isplitl [Hc]; · iexact Hc
    iexact Hs
  iintro ⟨HO, Hz, Hb, HA, HB, Ho, Hs⟩
  iapply hQ
  unfold Φ₁ ends
  isplitr [HO]
  · isplitl [Hb HA HB Ho]
    · isplitl [Hb]; · iexact Hb
      isplitl [HA]; · iexact HA
      isplitl [HB]; · iexact HB
      iexact Ho
    isplitl [Hz]; · iexact Hz
    iexact Hs
  isplitl [HO]
  · ihave HO := (owe_open (F := F) c 0) $$ HO
    icases HO with ⟨%W, HO⟩
    iapply (to_owesAt m t0_0.succ c W); iexact HO
  · iempintro

theorem body_obligation (c : Dev nD) : BodyObligation (dats (F := F) m 0 c) (defs₀ (F := F)) 𝒱₀ false Set.univ := fun t => by
  rw [fin_N0 t]
  refine .trans (sep_mono_right (sep_mono_right (Entails.of_eq (no_windows _)))) ?_
  exact body_point m c _ (sep_mono_right (sep_mono_right (Entails.of_eq (no_windows _).symm)))

/-! ## The launch -/

def cells : Finset (GSem nD τ sig) := Finset.univ.map ⟨kcell, kcell_injective⟩
/-- A device's own cells' duties: the two of its barrier cell and one of each other cell. -/
def tokCell (j : Fin 20) : Fin 19 := ⟨j.val - 1, by omega⟩
theorem tokCell_inj : ∀ j j' : Fin 20, tokCell j = tokCell j' → decide (j = 0) = decide (j' = 0) → j = j' := by decide
abbrev tokOf (cj : Dev nD × Fin 20) : GSem nD τ sig × ℕ × Bool := (kcell (cj.1, tokCell cj.2), 0, decide (cj.2 = 0))
theorem tokOf_injective : Function.Injective tokOf := by
  rintro ⟨c, j⟩ ⟨c', j'⟩ h
  have h1 := kcell_injective (congrArg Prod.fst h)
  have h2 : decide (j = 0) = decide (j' = 0) := congrArg (fun x : GSem nD τ sig × ℕ × Bool => x.2.2) h
  have h3 := tokCell_inj j j' (congrArg Prod.snd h1) h2
  have h4 : c = c' := congrArg Prod.fst h1
  rw [h3, h4]
def cellToks : Finset (GSem nD τ sig × ℕ × Bool) := Finset.univ.map ⟨tokOf, tokOf_injective⟩

def u₀ : UU := (initOf (Pipeline.cells cfgs cellOf_inj) (Pipeline.launchToks cfgs cellOf_inj), (initOf cells cellToks, 1))

/-- The tokens of a device's own cells, as the launch mints them. -/
def ownToks (c : Dev nD) : sProp 𝕄 := iprop(tok c 0 true ∗ tok c 0 false ∗ tok c 1 false ∗ tok c 2 false ∗ tok c 3 false ∗ tok c 4 false ∗ tok c 5 false ∗ tok c 6 false ∗ tok c 7 false ∗ tok c 8 false ∗ tok c 9 false ∗ tok c 10 false ∗ tok c 11 false ∗ tok c 12 false ∗ tok c 13 false ∗ tok c 14 false ∗ tok c 15 false ∗ tok c 16 false ∗ tok c 17 false ∗ tok c 18 false)
/-- What the launch deals a device. -/
def G (c : Dev nD) : sProp 𝕄 :=
  iprop((bigSep Finset.univ fun k : Fin 19 => roundState ER (Rd m) (kcell (c, k)) 0)
    ∗ (bigSep Finset.univ fun k : Fin 19 => iprop(atPos ER (kcell (c, k)) 0 ∅ 0 ∗ reached ER (kcell (c, k)) 0)) ∗ ownToks c)

theorem fin19 (Φ : Fin 19 → sProp 𝕄) : bigSep Finset.univ Φ = iprop(Φ 0 ∗ Φ 1 ∗ Φ 2 ∗ Φ 3 ∗ Φ 4 ∗ Φ 5 ∗ Φ 6 ∗ Φ 7 ∗ Φ 8 ∗ Φ 9 ∗ Φ 10 ∗ Φ 11 ∗ Φ 12 ∗ Φ 13 ∗ Φ 14 ∗ Φ 15 ∗ Φ 16 ∗ Φ 17 ∗ Φ 18) :=
  bigSep_univ_eq_bigSepL [0, 1, 2, 3, 4, 5, 6, 7, 8, 9, 10, 11, 12, 13, 14, 15, 16, 17, 18] (by decide) (by decide) Φ
theorem fin20 (Φ : Fin 20 → sProp 𝕄) : bigSep Finset.univ Φ = iprop(Φ 0 ∗ Φ 1 ∗ Φ 2 ∗ Φ 3 ∗ Φ 4 ∗ Φ 5 ∗ Φ 6 ∗ Φ 7 ∗ Φ 8 ∗ Φ 9 ∗ Φ 10 ∗ Φ 11 ∗ Φ 12 ∗ Φ 13 ∗ Φ 14 ∗ Φ 15 ∗ Φ 16 ∗ Φ 17 ∗ Φ 18 ∗ Φ 19) :=
  bigSep_univ_eq_bigSepL [0, 1, 2, 3, 4, 5, 6, 7, 8, 9, 10, 11, 12, 13, 14, 15, 16, 17, 18, 19] (by decide) (by decide) Φ

theorem fund_cells : BI.own (embR (initOf cells cellToks, (1 : Counters))) ⊢ (|==> bigSep Finset.univ (G m) : sProp 𝕄) := by
  have hX (Φ : GSem nD τ sig → sProp 𝕄) : bigSep cells Φ = bigSep Finset.univ fun c : Dev nD => bigSep Finset.univ fun k : Fin 19 => Φ (kcell (c, k)) := by
    unfold cells; rw [bigSep_map, bigSep_univ_prod]; rfl
  have hT : bigSep cellToks (fun x => (dutyTok ER x.1 x.2.1 x.2.2 : sProp 𝕄)) = bigSep Finset.univ fun c : Dev nD => ownToks c := by
    unfold cellToks; rw [bigSep_map, bigSep_univ_prod]
    exact bigSep_congr fun c _ => by rw [fin20]; rfl
  rw [show (BI.own (embR (initOf cells cellToks, (1 : Counters))) : sProp 𝕄) = BI.own (ER (initOf cells cellToks)) from rfl]
  iintro HX
  imod (Rounds.fund ER (Rd m) cells cellToks) $$ HX with ⟨Hst, Hr, Hat, Htok⟩
  imodintro
  ihave Hst := (Entails.of_eq (hX fun g => roundState ER (Rd m) g 0)) $$ Hst
  ihave Hat := (Entails.of_eq (hX fun g => atPos ER g 0 ∅ 0)) $$ Hat
  ihave Hr := (Entails.of_eq (hX fun g => reached ER g 0)) $$ Hr
  ihave Htok := (Entails.of_eq hT) $$ Htok
  unfold G; simp only [bigSep_sep']
  isplitl [Hst]; · iexact Hst
  isplitl [Hat Hr]
  · isplitl [Hat]; · iexact Hat
    iexact Hr
  iexact Htok

theorem ownSems0_eq (c : Dev nD) : (Pipeline.ownSems0 (Ix := Bool) (Name := ℕ) (U := UU) (Lvl := ℕ) (Val := Elt F) (τ := τ) osem c : sProp 𝕄) = zeroAll c := by
  rw [Pipeline.ownSems0_eq_of_list c osem [0, 1, 2, 3, 4, 5, 6, 7, 8, 9, 10, 11, 12, 13, 14, 15, 16, 17, 18, 19, 20, 21, 22, 23, 24, 25] (by decide) (by decide)]; rfl
theorem unscopedSems0_eq (c : Dev nD) : (unscopedSems0 c : sProp 𝕄) = semVal (kcell (c, 0)) 0 := by
  unfold unscopedSems0; rw [bigSep_eq_bigSepL_of_eq [SemLoc.reg barS] (by decide) (by decide)]; rfl

theorem sems0 (c : Dev nD) :
    iprop(Pipeline.ownSems0 (Ix := Bool) (Name := ℕ) (U := UU) (Lvl := ℕ) (Val := Elt F) (τ := τ) osem c ∗ unscopedSems0 c)
      ⊢ (iprop((bigSep Finset.univ fun k : Fin 19 => semVal (kcell (c, k)) 0) ∗ zeros c) : sProp 𝕄) := by
  rw [ownSems0_eq, unscopedSems0_eq, fin19]
  unfold zeroAll zeros
  iintro ⟨⟨H0, H1, H2, H3, H4, H5, H6, H7, H8, H9, H10, H11, H12, H13, H14, H15, H16, H17, H18, H19, H20, H21, H22, H23, H24, H25⟩, HB⟩
  isplitr [H12 H13 H14 H15 H16 H17 H18 H19]
  · isplitl [HB]; · iexact HB
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    isplitl [H10]; · iexact H10
    isplitl [H11]; · iexact H11
    isplitl [H20]; · iexact H20
    isplitl [H21]; · iexact H21
    isplitl [H22]; · iexact H22
    isplitl [H23]; · iexact H23
    isplitl [H24]; · iexact H24
    iexact H25
  isplitl [H12]; · iexact H12
  isplitl [H13]; · iexact H13
  isplitl [H14]; · iexact H14
  isplitl [H15]; · iexact H15
  isplitl [H16]; · iexact H16
  isplitl [H17]; · iexact H17
  isplitl [H18]; · iexact H18
  iexact H19

theorem core_alloc (c : Dev nD) :
    iprop(Pipeline.ownSems0 (Ix := Bool) (Name := ℕ) (U := UU) (Lvl := ℕ) (Val := Elt F) (τ := τ) osem c ∗ unscopedSems0 c ∗ G m c)
      ⊢ |={Set.univ}=> iprop((bigSep Finset.univ fun k => iprop(∃ κ : ℕ, cellInv ER (Rd m) κ (kcell (c, k))))
          ∗ (bigSep Finset.univ fun k => iprop(atPos ER (kcell (c, k)) 0 ∅ 0 ∗ reached ER (kcell (c, k)) 0)) ∗ ownToks c ∗ zeros c) := by
  unfold G
  iintro ⟨Hos, Hus, Hst, Hat, Htok⟩
  ihave Hv := (sems0 (F := F) c) $$ [Hos Hus]
  · isplitl [Hos] <;> iassumption
  icases Hv with ⟨Hv, Hz⟩
  imod (show iprop((bigSep Finset.univ fun k : Fin 19 => semVal (kcell (c, k)) 0) ∗ bigSep Finset.univ fun k : Fin 19 => roundState ER (Rd m) (kcell (c, k)) 0)
      ⊢ (|={Set.univ}=> bigSep Finset.univ fun k => iprop(∃ κ : ℕ, cellInv ER (Rd m) κ (kcell (c, k))) : sProp 𝕄) from by
        rw [← bigSep_sep']
        exact (bigSep_mono fun k _ => (Rounds.body_intro ER (Rd m) (kcell (c, k))).trans inv_alloc).trans (bigSep_fupd _ _)) $$ [Hv Hst] with Hinv
  · isplitl [Hv] <;> iassumption
  imodintro
  isplitl [Hinv]; · iexact Hinv
  isplitl [Hat]; · iexact Hat
  isplitl [Htok]; · iexact Htok
  iexact Hz

/-! The tokens go to the devices that pay with them. -/

theorem nnnn (c : Dev nD) : nxt (nxt (nxt (nxt c))) = c := by revert c; decide
def ringN : Dev nD ≃ Dev nD := ⟨nxt, prv, prv_nxt, nxt_prv⟩
def ringP : Dev nD ≃ Dev nD := ⟨prv, nxt, nxt_prv, prv_nxt⟩
def ringO : Dev nD ≃ Dev nD := ⟨fun c => nxt (nxt c), fun c => nxt (nxt c), nnnn, nnnn⟩

theorem shift (e : Dev nD ≃ Dev nD) (k : Fin 19) (b : Bool) :
    (bigSep Finset.univ fun c : Dev nD => (tok c k b : sProp 𝕄)) ⊢ bigSep Finset.univ fun c : Dev nD => tok (e c) k b :=
  Entails.of_eq (bigSep_univ_equiv e fun c : Dev nD => (tok c k b : sProp 𝕄))

theorem toks_around : (bigSep Finset.univ fun c : Dev nD => (ownToks c : sProp 𝕄)) ⊢ bigSep Finset.univ fun c : Dev nD => toks c := by
  unfold ownToks toks
  simp only [bigSep_sep']
  iintro ⟨H0, H1, H2, H3, H4, H5, H6, H7, H8, H9, H10, H11, H12, H13, H14, H15, H16, H17, H18, H19⟩
  isplitl [H0]; · iapply (shift ringP 0 true); iexact H0
  isplitl [H1]; · iapply (shift ringN 0 false); iexact H1
  isplitl [H2]; · iexact H2
  isplitl [H3]; · iexact H3
  isplitl [H4]; · iexact H4
  isplitl [H5]; · iexact H5
  isplitl [H6]; · iexact H6
  isplitl [H7]; · iexact H7
  isplitl [H8]; · iapply (shift ringN 7 false); iexact H8
  isplitl [H9]; · iapply (shift ringN 8 false); iexact H9
  isplitl [H10]; · iapply (shift ringP 9 false); iexact H10
  isplitl [H11]; · iapply (shift ringP 10 false); iexact H11
  isplitl [H12]; · iapply (shift ringN 11 false); iexact H12
  isplitl [H13]; · iapply (shift ringP 12 false); iexact H13
  isplitl [H14]; · iexact H14
  isplitl [H15]; · iexact H15
  isplitl [H16]; · iexact H16
  isplitl [H17]; · iapply (shift ringN 16 false); iexact H17
  isplitl [H18]; · iapply (shift ringO 17 false); iexact H18
  iapply (shift ringP 18 false); iexact H19

theorem with_persistent {I : Type} [DecidableEq I] {S : Finset I} {R : sProp 𝕄} [BI.Persistent R] {Φ Ψ : I → sProp 𝕄}
    (h : ∀ i ∈ S, iprop(R ∗ Φ i) ⊢ Ψ i) : iprop(R ∗ bigSep S Φ) ⊢ bigSep S Ψ :=
  (sep_mono_left (BI.bigSep_of_persistent S R)).trans (by rw [← bigSep_sep']; exact bigSep_mono h)

def records (K : Dev nD × Fin 19 → ℕ) : sProp 𝕄 :=
  iprop((bigSep Finset.univ fun ck : Dev nD × Fin 19 => cellInv ER (Rd m) (K ck) (kcell ck)) ∗ bigSep Finset.univ fun ck : Dev nD × Fin 19 => reached ER (kcell ck) 0)
instance records_persistent (K : Dev nD × Fin 19 → ℕ) : BI.Persistent (records (F := F) m K) := by unfold records; infer_instance

theorem todos_eq (c : Dev nD) : (bigSep Finset.univ fun k : Fin 19 => (atPos ER (kcell (c, k)) 0 ∅ 0 : sProp 𝕄)) = todos c := fin19 _

theorem deal (K : Dev nD × Fin 19 → ℕ) (c : Dev nD) :
    iprop(records m K ∗ ((bigSep Finset.univ fun k : Fin 19 => atPos ER (kcell (c, k)) 0 ∅ 0) ∗ toks c ∗ zeros c)) ⊢ G' m c := by
  unfold records G'
  rw [todos_eq]
  have hI (p : Dev nD × Fin 19) : (bigSep Finset.univ fun ck : Dev nD × Fin 19 => (cellInv ER (Rd m) (K ck) (kcell ck) : sProp 𝕄)) ⊢ cellInv ER (Rd m) (K p) (kcell p) := bigSep_elim (Finset.mem_univ p)
  have hR (p : Dev nD × Fin 19) : (bigSep Finset.univ fun ck : Dev nD × Fin 19 => (reached ER (kcell ck) 0 : sProp 𝕄)) ⊢ reached ER (kcell p) 0 := bigSep_elim (Finset.mem_univ p)
  iintro ⟨⟨#HI, #HR⟩, Hat, Htk, Hz⟩
  iexists K
  isplitr
  · iintro %p
    isplitl
    · iapply (hI p); iexact HI
    · iapply (hR p); iexact HR
  isplitl [Hat]; · iexact Hat
  isplitl [Htk]; · iexact Htk
  iexact Hz

theorem regroup :
    (bigSep Finset.univ fun c : Dev nD => iprop((bigSep Finset.univ fun k => iprop(∃ κ : ℕ, cellInv ER (Rd m) κ (kcell (c, k))))
          ∗ (bigSep Finset.univ fun k => iprop(atPos ER (kcell (c, k)) 0 ∅ 0 ∗ reached ER (kcell (c, k)) 0)) ∗ ownToks c ∗ zeros c) : sProp 𝕄)
      ⊢ bigSep Finset.univ (G' m) := by
  rw [bigSep_sep', bigSep_sep', bigSep_sep', ← bigSep_univ_prod (fun ck : Dev nD × Fin 19 => iprop(∃ κ : ℕ, cellInv ER (Rd m) κ (kcell ck))),
    bigSep_congr (s := Finset.univ) (fun (c : Dev nD) _ => bigSep_sep' Finset.univ (fun k : Fin 19 => (atPos ER (kcell (c, k)) 0 ∅ 0 : sProp 𝕄)) (fun k => reached ER (kcell (c, k)) 0)),
    bigSep_sep', ← bigSep_univ_prod (fun ck : Dev nD × Fin 19 => (reached ER (kcell ck) 0 : sProp 𝕄))]
  iintro ⟨HI, ⟨Hat, #HR⟩, Htok, Hz⟩
  ihave HK := (BI.bigSep_exists_pi Finset.univ (fun (ck : Dev nD × Fin 19) (κ : ℕ) => (cellInv ER (Rd m) κ (kcell ck) : sProp 𝕄))) $$ HI
  icases HK with ⟨%K, #HI⟩
  ihave Htk := (toks_around (F := F)) $$ Htok
  iapply (with_persistent (R := records m K) fun c _ => deal m K c)
  isplitr
  · unfold records; isplitl; · iexact HI
    iexact HR
  · simp only [bigSep_sep']
    isplitl [Hat]; · iexact Hat
    isplitl [Htk]; · iexact Htk
    iexact Hz

theorem glob : (bigSep Finset.univ fun c => iprop(Pipeline.ownSems0 (Ix := Bool) (Name := ℕ) (U := UU) (Lvl := ℕ) (Val := Elt F) (τ := τ) osem c ∗ unscopedSems0 c ∗ G m c) : sProp 𝕄)
    ⊢ |={Set.univ}=> bigSep Finset.univ (G' m) :=
  ((bigSep_mono fun c _ => core_alloc m c).trans (bigSep_fupd _ _)).trans (BI.fupd_mono (regroup m))

/-! ## The launch credit -/

theorem cred_take (n : ℕ) (k : Fin 19) (f g : Dev nD → Dev nD) (h1 : ∀ c, f (g c) = c) (h2 : ∀ c, g (f c) = c) (hd : ∀ d, debt d n = (f d, k)) (c : Dev nD) :
    (Pipeline.launchCred (fun d => owed d (n + 1)) c : sProp 𝕄) ⊢ iprop(Pipeline.launchCred (fun d => owed d n) c ∗ credit c k (amt k.val)) := by
  have h : (fun d : Dev nD => owed d (n + 1)) = fun d => owed d n + tallyAt ((f d).tc, csem k) true (amt k.val) := by
    funext d
    show owed d n + tallyAt (kcell (debt d n)) true (amt (debt d n).2.val) = _
    rw [hd d]
  rw [h, Pipeline.launchCred_add]
  exact sep_mono_right (Pipeline.launchCred_tallyAt (csem k) f g h1 h2 true (amt k.val) c)

theorem two_units (c : Dev nD) : (cred (tallyAt (kcell (c, 0)) true (amt (0 : Fin 19).val) + tallyAt (kcell (c, 0)) true (amt (0 : Fin 19).val)) : sProp 𝕄) ⊢ credit c 0 2 :=
  Entails.of_eq (congrArg cred (tallyAt_add (kcell (c, 0)) true (amt (0 : Fin 19).val) (amt (0 : Fin 19).val)))

theorem creds_intro (c : Dev nD) : (Pipeline.launchCred (fun d => owed d 11) c : sProp 𝕄) ⊢ creds c := by
  iintro HC
  ihave HC := (cred_take (F := F) 10 0 prv nxt prv_nxt nxt_prv (fun _ => rfl) c) $$ HC
  icases HC with ⟨HC, G10⟩
  ihave HC := (cred_take (F := F) 9 0 nxt prv nxt_prv prv_nxt (fun _ => rfl) c) $$ HC
  icases HC with ⟨HC, G9⟩
  ihave HC := (cred_take (F := F) 8 7 nxt prv nxt_prv prv_nxt (fun _ => rfl) c) $$ HC
  icases HC with ⟨HC, G8⟩
  ihave HC := (cred_take (F := F) 7 9 prv nxt prv_nxt nxt_prv (fun _ => rfl) c) $$ HC
  icases HC with ⟨HC, G7⟩
  ihave HC := (cred_take (F := F) 6 8 nxt prv nxt_prv prv_nxt (fun _ => rfl) c) $$ HC
  icases HC with ⟨HC, G6⟩
  ihave HC := (cred_take (F := F) 5 10 prv nxt prv_nxt nxt_prv (fun _ => rfl) c) $$ HC
  icases HC with ⟨HC, G5⟩
  ihave HC := (cred_take (F := F) 4 11 nxt prv nxt_prv prv_nxt (fun _ => rfl) c) $$ HC
  icases HC with ⟨HC, G4⟩
  ihave HC := (cred_take (F := F) 3 12 prv nxt prv_nxt nxt_prv (fun _ => rfl) c) $$ HC
  icases HC with ⟨HC, G3⟩
  ihave HC := (cred_take (F := F) 2 16 nxt prv nxt_prv prv_nxt (fun _ => rfl) c) $$ HC
  icases HC with ⟨HC, G2⟩
  ihave HC := (cred_take (F := F) 1 17 (fun d => nxt (nxt d)) (fun d => nxt (nxt d)) nnnn nnnn (fun _ => rfl) c) $$ HC
  icases HC with ⟨HC, G1⟩
  ihave HC := (cred_take (F := F) 0 18 prv nxt prv_nxt nxt_prv (fun _ => rfl) c) $$ HC
  icases HC with ⟨HC, G0⟩
  unfold creds
  isplitl [G9 G10]
  · ihave G := (cred_add _ _).2 $$ [G9 G10]
    · isplitl [G9]; · iexact G9
      iexact G10
    iapply (two_units (F := F) c); iexact G
  isplitl [G8]; · iexact G8
  isplitl [G6]; · iexact G6
  isplitl [G7]; · iexact G7
  isplitl [G5]; · iexact G5
  isplitl [G4]; · iexact G4
  isplitl [G3]; · iexact G3
  isplitl [G2]; · iexact G2
  isplitl [G1]; · iexact G1
  iexact G0

/-! ## The theorem's side conditions -/

theorem start_intro (c : Dev nD) :
    iprop(Pipeline.unscopedRestP Pipeline.Prefetch.none cfg0.spec c (fun b => m ((c : Thread nD τ).loc b)) ∗ levAts L lv
        ∗ Pipeline.launchCred (fun d => owed d 11) c ∗ prngReg c (ρ c) ∗ G' m c)
      ⊢ |={Set.univ}=> iprop(start m c ∗ emp) := by
  rw [Pipeline.unscopedRestP_none, unscopedRest0_eq]
  unfold G' start env
  iintro ⟨⟨HA, HB, Ho, Hc⟩, #Hlev, Hcr, -, ⟨%K, #HI, Htd, Htk, Hz⟩⟩
  ihave Hcr := (creds_intro (F := F) c) $$ Hcr
  imodintro
  isplitl
  · isplitl [Htd Htk Hz]
    · iexists K
      isplitr
      · isplitl; · iexact HI
        iexact Hlev
      isplitl [Htd]; · iexact Htd
      isplitl [Htk]; · iexact Htk
      iexact Hz
    isplitl [Hcr]; · iexact Hcr
    isplitl [HA]; · iexact HA
    isplitl [HB]; · iexact HB
    isplitl [Ho]; · iapply (to_anyW oM c _); iexact Ho
    iapply (to_anyW cM c _); iexact Hc
  · iempintro

theorem scr_eq (c : Dev nD) : (Pipeline.scopedRest cfg0.spec c : sProp 𝕄) = scr c := scopedRest0_eq c

theorem phi0_intro (c : Dev nD) :
    iprop(start m c ∗ Pipeline.prefHeld Pipeline.Prefetch.none c (fun _ => fullShare.right) (fun k => k.elim0) ∗ Pipeline.scopedRest cfg0.spec c)
      ⊢ (dats m 0 c).Φ 0 := by
  rw [show (dats m 0 c).Φ 0 = Φ₀ m c from rfl, scr_eq]
  unfold Φ₀
  iintro ⟨Hs, -, Hr⟩
  isplitl [Hs]; · iexact Hs
  iexact Hr

theorem phi1_exit (c : Dev nD) :
    (dats m 0 c).Φ (Fin.last cfg0.N) ⊢ iprop(ends m c ∗ Pipeline.ownSems0 osem c ∗ Pipeline.scopedRest cfg0.spec c) := by
  rw [show (dats m 0 c).Φ (Fin.last cfg0.N) = Φ₁ m c from rfl, scr_eq, ownSems0_eq]
  unfold Φ₁ scratch scr
  iintro ⟨He, Hz, -, Hs⟩
  isplitl [He]; · iexact He
  isplitl [Hz]; · iexact Hz
  iexact Hs

/-! ## The run -/

/-- The result's buffer on device `c` after the run. -/
def outB (c : Dev nD) : Buf (Elt F) ((c.tc : Thread nD τ).loc main_v1_0) := oM.view.rep (outV m c)

def Ends (c : Dev nD) (s : MemSt nD τ sig (Elt F)) : Prop :=
  s.mem ((c.tc : Thread nD τ).loc main_v1_0) = outB m c
    ∧ s.mem ((c.tc : Thread nD τ).loc main_arg0) = m ((c.tc : Thread nD τ).loc main_arg0)
    ∧ s.mem ((c.tc : Thread nD τ).loc main_arg1) = m ((c.tc : Thread nD τ).loc main_arg1)

theorem ends_read (c : Dev nD) (s' : Phys nD τ sig (Elt F)) :
    iprop(ends m c ∗ iprop(emp) ∗ SI s') ⊢ (|={Set.univ}=> iprop(⌜Ends m c s'.mem ∧ ∀ sm : SemLoc sig, sm.isScoped .tc = false → s'.mem.sem ((c.tc : Thread nD τ), sm) = 0⌝ ∗ SI s') : sProp 𝕄) := by
  unfold ends
  iintro ⟨⟨Hb, HA, HB, Ho⟩, -, HSI⟩
  icombine HSI HA gives %hA
  icombine HSI HB gives %hB
  icombine HSI Ho gives %ho
  imod (Pipeline.unscopedSems0_read (X := semVal (kcell (c, 0)) 0) (c := c) ((Entails.of_eq (unscopedSems0_eq c).symm).trans fupd_intro) s') $$ [Hb HSI] with ⟨%hs, HSI⟩
  · isplitl [Hb]; · iexact Hb
    iexact HSI
  imodintro
  isplitr
  · ipureintro
    exact ⟨⟨Buf.eq_of_forall_mem_univ ho, Buf.eq_of_forall_mem_univ hA, Buf.eq_of_forall_mem_univ hB⟩, hs⟩
  · iexact HSI

set_option maxRecDepth 8000 in
/-- From any memory with every semaphore counter at zero, every weakly fair execution of the four devices terminates
    without a fault, each device's result at its quantised product, its arguments unchanged, every semaphore at zero. -/
theorem run_main : θ_run defs (onTc (τ := τ) (main (F := F))) ⟨m, fun _ => 0, ρ⟩ (fun r => (∀ c, Ends m c r.2) ∧ r.2.sem = fun _ => 0) :=
  Pipeline.θ_run_region_owing_glob_pf (fun p => (cfgs p).toPCfg) (fun p => (cfgs p).toPCfg_adm) (dats m) false cellOf_inj (0 : Fin 1)
    winFacts0.to₀ ownSemFacts (Pipeline.PreFacts.none _) EP defs₀ 𝒱₀ m ρ main
    (hmain := fun _ => rfl)
    (hbody := fun c => (body_obligation m c).loose) (hne := fun w => w.elim0) (harr := arr_whole0) (hstage := stage_whole0) (hshare := fun _ w => w.elim0)
    (hdistinct := winFacts0.arr_inj)
    (O₀ := fun d => owed d 11) (howed₀ := fun _ => rfl) (howedN := fun _ => rfl)
    (L := L) (lv := lv) (hL := L_of_ne) (hwaits := fun c => Pipeline.cellsWaits_intro cfgs (dats m) false 0 c fun w => w.elim0)
    (G := G m) (G' := G' m) (u₀ := u₀)
    (hu₀ := by
      unfold u₀
      iintro Hu
      ihave H := (ownU_pair _ _) $$ Hu
      icases H with ⟨HP, HX⟩
      imod (fund_cells m) $$ HX with HG
      imodintro
      isplitl [HP] <;> iassumption)
    (hglob := glob m)
    (hA := fun _ w => w.elim0) (hpf := fun _ k => k.elim0)
    (X := start m) (Y := ends m) (Z := fun _ => iprop(emp))
    (hX := start_intro m ρ) (hin := phi0_intro m) (hout := phi1_exit m)
    (QY := fun c s => Ends m c s ∧ ∀ sm : SemLoc sig, sm.isScoped .tc = false → s.sem ((c.tc : Thread nD τ), sm) = 0)
    (hY := ends_read m)
    (hQ := fun _ h hs => ⟨fun c => (h c).2.2.1, sem_eq_zero hs fun c => (h c).2.2.2⟩)

end Cert.MeshProof

end
-- ==== Proof.Frames.lean ====
/-
The three programs' runs: their arguments unchanged, the machine quiescent at the end.
-/
module

public import proofs.«01_k».proof.Proof.Launch
public import proofs.«01_k».proof.Defs
public import proofs.«01_k».proof.Proof.Gen.Kernel
public import proofs.«01_k».proof.Proof.Gen.ReferenceIdeal
public import proofs.«01_k».proof.Proof.Gen.ReferenceIdeal.Frame

@[expose] public section

set_option maxRecDepth 16384

noncomputable section

namespace Cert.MeshProof

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Bool (Elt F) ℕ UU ℕ

/-- The program as printed runs, keeps its arguments and ends quiescent: the run at the machine's own values. -/
theorem frame_kernel : Cert.quiescent_Kernel := fun m ρ _ =>
  (θ_run Cert.KernelIdeal.defs _ _).mono (fun _ h => ⟨fun c => ⟨(h.1 c).2.1, (h.1 c).2.2⟩, h.2⟩) (run_main (F := Bits) m ρ)

/-- So does its idealization. -/
theorem frame_kernelIdeal : Cert.quiescent_KernelIdeal := fun m ρ _ =>
  (θ_run Cert.KernelIdeal.defs _ _).mono (fun _ h => ⟨fun c => ⟨(h.1 c).2.1, (h.1 c).2.2⟩, h.2⟩) (run_main (F := Ideal) m ρ)

/-- And the reference. -/
theorem frame_referenceIdeal : Cert.quiescent_ReferenceIdeal := fun m ρ _ => Cert.ReferenceIdeal.Gen.frame m ρ

end Cert.MeshProof

end
-- ==== Proof.Quant.lean ====
/-
One element of the result: the kernel's quantiser and the reference's, on the extended reals.
-/
module

public import proofs.«01_k».proof.Proof.Base
public import Idealize.ShloMosaic.PureOps.Ideal.Laws

@[expose] public section

set_option maxRecDepth 16384

noncomputable section

namespace Cert.MeshProof

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Bool (Elt F) ℕ UU ℕ

/-! ## The constants -/

theorem c448 : (FloatOps.ofBits (F := Ideal) .f32 0x43E00000#32 : EReal) = ((448 : ℝ) : EReal) := by
  show Ideal.ofBits .f32 0x43E00000#32 = _
  simp [Ideal.ofBits, Ideal.ieee, -EReal.coe_mul]; norm_num
theorem cneg448 : (FloatOps.ofBits (F := Ideal) .f32 0xC3E00000#32 : EReal) = ((-448 : ℝ) : EReal) := by
  show Ideal.ofBits .f32 0xC3E00000#32 = _
  simp [Ideal.ofBits, Ideal.ieee, -EReal.coe_mul]; norm_num
theorem cbig : ∃ r : ℝ, (FloatOps.ofBits (F := Ideal) .f32 0x49800008#32 : EReal) = (r : EReal) := by
  refine ⟨1048577, ?_⟩
  show Ideal.ofBits .f32 0x49800008#32 = _
  simp [Ideal.ofBits, Ideal.ieee, -EReal.coe_mul]; norm_num
theorem cninf : (FloatOps.ofBits (F := Ideal) .f32 0xFF800000#32 : EReal) = ⊥ := by
  show Ideal.ofBits .f32 0xFF800000#32 = _
  simp [Ideal.ofBits, Ideal.ieee]
theorem czero : (FloatOps.ofBits (F := Ideal) .f32 0x00000000#32 : EReal) = 0 := Ideal.ofBits_zero_f32

/-! ## One element -/

/-- An element quantised as the kernel does it: scaled by `448 / a`, its low bits taken off, clipped, and scaled back; -/
def qk (y a : EReal) : EReal :=
  let s := y * Ideal.div (FloatOps.ofBits (F := Ideal) .f32 0x43E00000#32) a
  let b := (FloatOps.ofBits (F := Ideal) .f32 0x49800008#32 : EReal) * s
  min (FloatOps.ofBits (F := Ideal) .f32 0x43E00000#32 : EReal) (max (FloatOps.ofBits (F := Ideal) .f32 0xC3E00000#32 : EReal) (b - (b - s)))
    * Ideal.div a (FloatOps.ofBits (F := Ideal) .f32 0x43E00000#32)
/-- and as the reference does: divided by the scale `a / 448`, clipped, and multiplied by it. -/
def qr (y a : EReal) : EReal :=
  min (FloatOps.ofBits (F := Ideal) .f32 0x43E00000#32 : EReal) (max (FloatOps.ofBits (F := Ideal) .f32 0xC3E00000#32 : EReal)
    (Ideal.div y (Ideal.div a (FloatOps.ofBits (F := Ideal) .f32 0x43E00000#32)))) * Ideal.div a (FloatOps.ofBits (F := Ideal) .f32 0x43E00000#32)

/-- They agree at every element no larger than `a`, the infinite ones and an all-zero product included. -/
theorem qk_eq_qr (y a : EReal) (hy : max y (-y) ≤ a) : qk y a = qr y a := by
  obtain ⟨B, hB⟩ := cbig
  unfold qk qr
  simp only [c448, cneg448, hB]
  have h448 : (((448 : ℝ) : EReal)) ≠ 0 := by norm_num
  have hdiv : Ideal.div a ((448 : ℝ) : EReal) = a * ((448 : ℝ) : EReal)⁻¹ := if_neg h448
  have h0 : 0 ≤ a := by
    rcases le_total 0 y with h | h
    · exact h.trans ((le_max_left _ _).trans hy)
    · exact (EReal.neg_nonneg.mpr h).trans ((le_max_right _ _).trans hy)
  induction a with
  | bot => simp at h0
  | top =>
    have h1 : Ideal.div ((448 : ℝ) : EReal) ⊤ = 0 := by unfold Ideal.div; simp
    have h2 : Ideal.div ⊤ ((448 : ℝ) : EReal) = ⊤ := by
      rw [hdiv, ← EReal.coe_inv]; exact EReal.top_mul_coe_of_pos (by norm_num)
    have h3 : Ideal.div y ⊤ = 0 := by unfold Ideal.div; simp
    rw [h1, h2, h3]
    simp
  | coe a =>
    have hy1 : y ≤ a := (le_max_left _ _).trans hy
    have hy2 : -y ≤ a := (le_max_right _ _).trans hy
    induction y with
    | bot => simp at hy2
    | top => simp at hy1
    | coe y =>
      rcases eq_or_ne a 0 with rfl | ha
      · have hy0 : y = 0 := le_antisymm (by exact_mod_cast hy1) (by have : -y ≤ 0 := by exact_mod_cast hy2
                                                                    linarith)
        subst hy0
        rw [hdiv]
        simp
      · have ha' : ((a : ℝ) : EReal) ≠ 0 := by exact_mod_cast ha
        have hs : Ideal.div ((448 : ℝ) : EReal) (a : EReal) = ((448 * a⁻¹ : ℝ) : EReal) := by
          unfold Ideal.div; rw [if_neg ha', ← EReal.coe_inv, ← EReal.coe_mul]
        have hd : Ideal.div (a : EReal) ((448 : ℝ) : EReal) = ((a * 448⁻¹ : ℝ) : EReal) := by
          rw [hdiv, ← EReal.coe_inv, ← EReal.coe_mul]
        have hne : ((a * 448⁻¹ : ℝ) : EReal) ≠ 0 := by
          have : a * (448 : ℝ)⁻¹ ≠ 0 := mul_ne_zero ha (by norm_num)
          exact_mod_cast this
        have hq : Ideal.div (y : EReal) ((a * 448⁻¹ : ℝ) : EReal) = ((y * (448 * a⁻¹) : ℝ) : EReal) := by
          unfold Ideal.div; rw [if_neg hne, ← EReal.coe_inv, ← EReal.coe_mul, mul_inv, inv_inv, mul_comm a⁻¹]
        rw [hs, hd, hq, ← EReal.coe_mul, ← EReal.coe_mul, ← EReal.coe_sub, ← EReal.coe_sub, sub_sub_cancel]

end Cert.MeshProof

end
-- ==== Proof.Amax.lean ====
/-
The largest magnitude of the product, as the four devices compute it.
-/
module

public import proofs.«01_k».proof.Proof.Content
public import proofs.«01_k».proof.Proof.Joins
public import proofs.«01_k».proof.Proof.Quant
public import Idealize.ShloMosaic.Lib.ValueIdx

@[expose] public section

set_option maxRecDepth 16384

noncomputable section

namespace Cert.MeshProof

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Bool (Elt F) ℕ UU ℕ

open Idealize.ShloMosaic.ValueIdx

section Generic
variable {F : FTy → Type} [FloatOps F] (m : (ℓ : Loc nD τ sig) → Buf (Elt F) ℓ)

/-- The largest magnitude of a block, as the kernel's reduction computes it. -/
def bmax (v : FVec F S512x2048 .f32) : F .f32 :=
  extractAt ![0, 0, 0] (shapeCast S1x1x1 (multiReduction .maximumf [1, 2] S1 (shapeCast S1x512x2048 (absf v) shapeCasts_S512x2048_S1x512x2048)
    0xFF800000#32 reduces_S1x512x2048_S1 (.inl rfl) rfl) shapeCasts_S1_S1x1x1) inpos_S1x1x1_p0_0_0

theorem extract3 (u : FVec F S1 .f32) : ∃ j, extractAt ![0, 0, 0] (shapeCast S1x1x1 u shapeCasts_S1_S1x1x1) inpos_S1x1x1_p0_0_0 = u j := ⟨_, rfl⟩
theorem extract4 (u : FVec F S1 .f32) : ∃ j, extractAt ![0, 0, 0, 0] (shapeCast S1x1x1x1 u shapeCasts_S1_S1x1x1x1) inpos_S1x1x1x1_p0_0_0_0 = u j :=
  ⟨_, rfl⟩

theorem bmax_at (v : FVec F S512x2048 .f32) : ∃ j, bmax v =
    multiReduction .maximumf [1, 2] S1 (shapeCast S1x512x2048 (absf v) shapeCasts_S512x2048_S1x512x2048)
      0xFF800000#32 reduces_S1x512x2048_S1 (.inl rfl) rfl j := extract3 _

theorem pay41_at (v : FVec F S4x8x128 .f32) : ∃ j, k0_pay41 v =
    multiReduction .maximumf [1, 2, 3] S1 (shapeCast S1x4x8x128 v shapeCasts_S4x8x128_S1x4x8x128)
      0xFF800000#32 reduces_S1x4x8x128_S1 (.inl rfl) rfl j := extract4 _

/-- One more block's maximum joined to the running one. -/
theorem step_max (p : F .f32) (x : S512x4096.Idx → Elt F .bf16) (w : Vec F S4096x2048 .bf16) :
    k0_pay21 p (up x) w = Scalar.maximumf p (bmax (k0_pay14 x w)) := by
  have h : k0_pay21 p (up x) w = Scalar.maximumf p (bmax (k0_pay20 (up x) w)) := rfl
  rw [h, pay20_up]

theorem mx1_eq (c : Dev nD) : mx1 m c = Scalar.maximumf (Scalar.maximumf (Scalar.ofBits .f32 0x00000000#32) (bmax (k0_pay14 (xh m c 0) (wbf m c))))
    (bmax (k0_pay14 (xh m c 1) (wbf m c))) := rfl

/-- The running maximum of a device after its eight blocks. -/
theorem mx7_eq (c : Dev nD) : mx7 m c =
    Scalar.maximumf (Scalar.maximumf (Scalar.maximumf (Scalar.maximumf (Scalar.maximumf (Scalar.maximumf (mx1 m c)
      (bmax (k0_pay14 (xh m (prv c) 0) (wbf m c)))) (bmax (k0_pay14 (xh m (nxt c) 0) (wbf m c))))
      (bmax (k0_pay14 (xh m (prv c) 1) (wbf m c)))) (bmax (k0_pay14 (xh m (nxt c) 1) (wbf m c))))
      (bmax (k0_pay14 (xh m (nxt (nxt c)) 0) (wbf m c)))) (bmax (k0_pay14 (xh m (nxt (nxt c)) 1) (wbf m c))) := by
  have e2 : mx2 m c = Scalar.maximumf (mx1 m c) _ := step_max _ _ _
  have e3 : mx3 m c = Scalar.maximumf (mx2 m c) _ := step_max _ _ _
  have e4 : mx4 m c = Scalar.maximumf (mx3 m c) _ := step_max _ _ _
  have e5 : mx5 m c = Scalar.maximumf (mx4 m c) _ := step_max _ _ _
  have e6 : mx6 m c = Scalar.maximumf (mx5 m c) _ := step_max _ _ _
  have e7 : mx7 m c = Scalar.maximumf (mx6 m c) _ := step_max _ _ _
  rw [e7, e6, e5, e4, e3, e2]

end Generic

variable (m : (ℓ : Loc nD τ sig) → Buf (Elt Ideal) ℓ)

/-- A fold of `max` from `-∞` over every index is below `B` when each element is. -/
theorem fold_max_bot_le {I : Type} (s : Finset I) (f : I → EReal) (B : EReal) : s.fold max ⊥ f ≤ B ↔ ∀ i ∈ s, f i ≤ B := by
  rw [Finset.fold_max_le]; exact ⟨fun h => h.2, fun h => ⟨bot_le, h⟩⟩

/-- A maximum taken into a shape of one element is below `B` when every element is. -/
theorem multiReduction_le {s t : Shape} {axes : List (Fin s.rank)} (src : FVec Ideal s .f32) (h : s.Reduces axes t) (ht : ∀ b, t.size b = 1)
    (hφ : FKind.Formats .f32) (hacc : (0xFF800000#32 : BitVec 32) = FKind.maximumf.neutral .f32 hφ) (j : t.Idx) (B : EReal) :
    (multiReduction .maximumf axes t src 0xFF800000#32 h hφ hacc j : EReal) ≤ B ↔ ∀ i, (src i : EReal) ≤ B := by
  rw [multiReduction_maximumf_eq_fold]
  have e : (FloatOps.maximumf (F := Ideal) (φ := .f32)) = (max : EReal → EReal → EReal) := rfl
  have hb : (FloatOps.ofBits (F := Ideal) .f32 0xFF800000#32) = (⊥ : EReal) := cninf
  refine (show _ ↔ (Finset.univ.filter fun i => h.drop i = j).fold max (⊥ : EReal) src ≤ B by rw [← hb]; rfl).trans ?_
  rw [fold_max_bot_le]
  refine ⟨fun H i => H i (Finset.mem_filter.mpr ⟨Finset.mem_univ i, funext fun b => Fin.ext ?_⟩), fun H i _ => H i⟩
  have h1 := (h.drop i b).isLt; have h2 := (j b).isLt; have h3 := ht b
  omega

/-- A shape cast only renames the indices. -/
theorem forall_shapeCast {s t : Shape} (v : s.Idx → EReal) (h : s.ShapeCasts t) (B : EReal) :
    (∀ i, shapeCast t v h i ≤ B) ↔ ∀ i, v i ≤ B := by
  refine ⟨fun H i => ?_, fun H i => H _⟩
  rw [← congrFun (shapeCast_shapeCast v h h.symm) i]
  exact H _

theorem bmax_le (v : FVec Ideal S512x2048 .f32) (B : EReal) : (bmax v : EReal) ≤ B ↔ ∀ y, max (v y : EReal) (-(v y)) ≤ B := by
  obtain ⟨j, hj⟩ := bmax_at v
  rw [hj]
  refine (multiReduction_le _ reduces_S1x512x2048_S1 (fun b => by fin_cases b; rfl) (.inl rfl) rfl j B).trans ?_
  exact forall_shapeCast (absf v) shapeCasts_S512x2048_S1x512x2048 B

theorem max_le' (a b : Ideal .f32) (B : EReal) : (Scalar.maximumf a b : EReal) ≤ B ↔ (a : EReal) ≤ B ∧ (b : EReal) ≤ B := max_le_iff

/-- Half `h` of device `d`'s rows of the product, in device `c`'s columns. -/
def pb (c d : Dev nD) (h : Fin 2) : S512x2048.Idx → EReal := k0_pay14 (xh m d h) (wbf m c)

theorem all_devs : ∀ c d : Dev nD, d = c ∨ d = prv c ∨ d = nxt c ∨ d = nxt (nxt c) := by decide

/-- The eight blocks in the order a device meets them are all the blocks. -/
theorem all_blocks (P : Dev nD → Fin 2 → Prop) (c : Dev nD) :
    (P c 0 ∧ P c 1 ∧ P (prv c) 0 ∧ P (nxt c) 0 ∧ P (prv c) 1 ∧ P (nxt c) 1 ∧ P (nxt (nxt c)) 0 ∧ P (nxt (nxt c)) 1) ↔ ∀ d h, P d h := by
  constructor
  · rintro ⟨a, b, e, f, g, i, j, k⟩ d h
    rcases all_devs c d with rfl | rfl | rfl | rfl <;> fin_cases h <;> assumption
  · intro h
    exact ⟨h c 0, h c 1, h (prv c) 0, h (nxt c) 0, h (prv c) 1, h (nxt c) 1, h (nxt (nxt c)) 0, h (nxt (nxt c)) 1⟩

/-- The running maximum after the eight blocks is the largest magnitude in the device's columns (and zero). -/
theorem mx7_le (c : Dev nD) (B : EReal) : (mx7 m c : EReal) ≤ B ↔ 0 ≤ B ∧ ∀ d h y, max (pb m c d h y) (-(pb m c d h y)) ≤ B := by
  have h0 : ((Scalar.ofBits .f32 0x00000000#32 : Ideal .f32) : EReal) = 0 := czero
  rw [mx7_eq, mx1_eq]
  simp only [max_le', bmax_le, h0, _root_.and_assoc]
  exact and_congr_right' (all_blocks (fun d h => ∀ y, max (pb m c d h y) (-(pb m c d h y)) ≤ B) c)

theorem from_onto : ∀ c d : Dev nD, ∃ k, from_ c k = d := by decide

/-- The maximum over the four devices' maxima, as device `c` takes it. -/
def ka (c : Dev nD) : EReal := k0_pay41 (mall m c)

theorem ka_le (c : Dev nD) (B : EReal) : ka m c ≤ B ↔ 0 ≤ B ∧ ∀ c' d h y, max (pb m c' d h y) (-(pb m c' d h y)) ≤ B := by
  have hm (d : Dev nD) : (amv m d : EReal) = mx7 m d := by
    show (FloatOps.ofBits (F := Ideal) .f32 0x00000000#32 : EReal) + mx7 m d = _
    rw [czero, zero_add]
  obtain ⟨j, hj⟩ := pay41_at (mall m c)
  unfold ka
  rw [hj]
  refine (multiReduction_le _ reduces_S1x4x8x128_S1 (fun b => by fin_cases b; rfl) (.inl rfl) rfl j B).trans ?_
  refine (forall_shapeCast (mall m c) shapeCasts_S4x8x128_S1x4x8x128 B).trans ?_
  have h1 : (∀ i, (mall m c i : EReal) ≤ B) ↔ ∀ d, (mx7 m d : EReal) ≤ B := by
    refine ⟨fun H d => ?_, fun H i => by unfold mall; rw [hm]; exact H _⟩
    obtain ⟨k, rfl⟩   := from_onto c d
    have := H (ix3 (n0 := 4) (n1 := 8) (n2 := 128) k 0 0)
    unfold mall at this; rw [hm] at this; exact this
  rw [h1]
  simp only [mx7_le]
  exact ⟨fun H => ⟨(H c).1, fun c' => (H c').2⟩, fun H d => ⟨H.1, H.2 d⟩⟩

end Cert.MeshProof

end
-- ==== Proof.Prod.lean ====
/-
Each device's blocks are blocks of the whole product.
-/
module

public import proofs.«01_k».proof.Proof.Amax
public import proofs.«01_k».proof.Proof.Frames
public import Idealize.ShloMosaic.Lib.MatmulPlain
public import Idealize.ShloMosaic.Lib.Layout

@[expose] public section

set_option maxRecDepth 16384

noncomputable section

namespace Cert.MeshProof

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Bool (Elt F) ℕ UU ℕ

open Idealize.ShloMosaic.ValueIdx
open scoped BigOperators

section Generic
variable {F : FTy → Type} [FloatOps F] (m : (ℓ : Loc nD τ sig) → Buf (Elt F) ℓ)

theorem pay14_plain (a : FVec F S512x4096 .bf16) (b : FVec F S4096x2048 .bf16) :
    k0_pay14 a b = FloatOps.matmul (DotDims.plain 512 4096 2048) none a b (constant S512x2048 .f32 0x00000000#32) := rfl

theorem ref_plain (a : FVec F Cert.ReferenceIdeal.S4096x4096 .f32) (b : FVec F Cert.ReferenceIdeal.S4096x8192 .f32) :
    Host.dotGeneral Cert.ReferenceIdeal.dot_S4096x4096_S4096x8192_S4096x8192_1_0_0_1_n_n none a b
      = Host.dotGeneral (DotDims.plain 4096 4096 8192) none a b := rfl

/-- A half of the rows read at an index is the rows read `512` further down for the second half. -/
theorem xh_at (d : Dev nD) (h : Fin 2) (r : Fin 512) (k : Fin 4096) :
    xh m d h (ix2 r k) = xbf m d (ix2 (⟨512 * h.val + r.val, by omega⟩ : Fin 1024) k) := by
  fin_cases h
  · refine congrArg (xbf m d) (funext fun a => Fin.ext ?_)
    fin_cases a
    · show 0 + 1 * r.val = 512 * 0 + r.val; omega
    · show 0 + 1 * k.val = k.val; omega
  · refine congrArg (xbf m d) (funext fun a => Fin.ext ?_)
    fin_cases a
    · show 512 + 1 * r.val = 512 * 1 + r.val; omega
    · show 0 + 1 * k.val = k.val; omega

end Generic

/-- The product of the whole arrays at a row and a column. -/
def yy (X : Cert.ReferenceIdeal.S4096x4096.Idx → EReal) (W : Cert.ReferenceIdeal.S4096x8192.Idx → EReal) (r : Fin 4096) (l : Fin 8192) : EReal :=
  ∑ k : Fin 4096, X (ix2 r k) * W (ix2 k l)

theorem dot_plain {M K N : ℕ} (L : FVec Ideal ⟨2, ![M, K]⟩ .f32) (R : FVec Ideal ⟨2, ![K, N]⟩ .f32) (r : Fin M) (c : Fin N) :
    Host.dotGeneral (DotDims.plain M K N) none L R (ix2 r c) = (∑ k : Fin K, (L (ix2 r k) : EReal) * R (ix2 k c) : EReal) := by
  have h := Ideal.matmul_plain_apply none L R (fun _ => (0 : EReal)) r c
  rw [Ideal.matmul_apply, zero_add, zero_add] at h
  simp only [Host.dotGeneral]
  rw [Ideal.dotGeneral_apply]
  exact h

/-- The reference's product. -/
theorem ref_dot (X : FVec Ideal Cert.ReferenceIdeal.S4096x4096 .f32) (W : FVec Ideal Cert.ReferenceIdeal.S4096x8192 .f32) (r : Fin 4096) (l : Fin 8192) :
    Host.dotGeneral Cert.ReferenceIdeal.dot_S4096x4096_S4096x8192_S4096x8192_1_0_0_1_n_n none X W (ix2 r l) = yy X W r l := by
  rw [ref_plain]
  exact dot_plain X W r l

variable (m : (ℓ : Loc nD τ sig) → Buf (Elt Ideal) ℓ)

theorem pb_sum (c d : Dev nD) (h : Fin 2) (r : Fin 512) (l : Fin 2048) :
    pb m c d h (ix2 r l) = ∑ k : Fin 4096, (xh m d h (ix2 r k) : EReal) * wbf m c (ix2 k l) := by
  unfold pb
  rw [pay14_plain]
  refine (Ideal.matmul_plain_apply none (xh m d h) (wbf m c) _ r l).trans ?_
  have hz : (constant S512x2048 .f32 0x00000000#32 : FVec Ideal S512x2048 .f32) (ix2 r l) = (0 : EReal) := czero
  rw [hz, zero_add]

variable (X : Cert.ReferenceIdeal.S4096x4096.Idx → EReal) (W : Cert.ReferenceIdeal.S4096x8192.Idx → EReal)

/-- The devices hold their rows of `X` and their columns of `W`. -/
def Holds : Prop := ∀ c : Dev nD,
  m ((c : Thread nD τ).loc main_arg0) = Layout.block ⟨2, ![1024, 4096]⟩ ⟨2, ![4096, 4096]⟩ 0 4 c X
    ∧ m ((c : Thread nD τ).loc main_arg1) = Layout.block ⟨2, ![4096, 2048]⟩ ⟨2, ![4096, 8192]⟩ 1 4 c W

/-- A device's block of the product is a block of the whole product. -/
theorem pb_yy (H : Holds m X W) (c d : Dev nD) (h : Fin 2) (r : Fin 512) (l : Fin 2048) :
    pb m c d h (ix2 r l) = yy X W ⟨1024 * d.val + 512 * h.val + r.val, by have := d.isLt; have : nD = 4 := rfl; omega⟩
      ⟨2048 * c.val + l.val, by have := c.isLt; have : nD = 4 := rfl; omega⟩ := by
  rw [pb_sum]
  unfold yy
  refine Finset.sum_congr rfl fun k _ => ?_
  rw [xh_at]
  have ex : (xbf m d (ix2 (⟨512 * h.val + r.val, by omega⟩ : Fin 1024) k) : EReal)
      = X (ix2 ⟨1024 * d.val + 512 * h.val + r.val, by have := d.isLt; have : nD = 4 := rfl; omega⟩ k) := by
    refine (congrFun (H d).1 (ix2 (⟨512 * h.val + r.val, by omega⟩ : Fin 1024) k)).trans ?_
    rw [Layout.block_apply]
    refine congrArg X (funext fun a => Fin.ext ?_)
    fin_cases a
    · show d.val * 1024 + (512 * h.val + r.val) = 1024 * d.val + 512 * h.val + r.val; omega
    · rfl
  have ew : (wbf m c (ix2 k l) : EReal) = W (ix2 k ⟨2048 * c.val + l.val, by have := c.isLt; have : nD = 4 := rfl; omega⟩) := by
    refine (congrFun (H c).2 (ix2 k l)).trans ?_
    rw [Layout.block_apply]
    refine congrArg W (funext fun a => Fin.ext ?_)
    fin_cases a
    · rfl
    · show c.val * 2048 + l.val = 2048 * c.val + l.val; omega
  rw [ex, ew]

/-- A bound of every block is a bound of the whole product. -/
theorem ka_yy (H : Holds m X W) (c : Dev nD) (B : EReal) : ka m c ≤ B ↔ ∀ r l, max (yy X W r l) (-(yy X W r l)) ≤ B := by
  rw [ka_le]
  constructor
  · rintro ⟨-, h⟩ r l
    have e := pb_yy m X W H ⟨l.val / 2048, by have : nD = 4 := rfl; omega⟩ ⟨r.val / 1024, by have : nD = 4 := rfl; omega⟩ ⟨r.val % 1024 / 512, by omega⟩ ⟨r.val % 512, by omega⟩ ⟨l.val % 2048, by omega⟩
    have er : (⟨1024 * (r.val / 1024) + 512 * (r.val % 1024 / 512) + r.val % 512, by omega⟩ : Fin 4096) = r := Fin.ext (by show 1024 * (r.val / 1024) + 512 * (r.val % 1024 / 512) + r.val % 512 = r.val; omega)
    have el : (⟨2048 * (l.val / 2048) + l.val % 2048, by omega⟩ : Fin 8192) = l := Fin.ext (by show 2048 * (l.val / 2048) + l.val % 2048 = l.val; omega)
    rw [er, el] at e
    rw [← e]
    exact h _ _ _ _
  · intro h
    refine ⟨?_, fun c' d k y => ?_⟩
    · have := h 0 0
      rcases le_total 0 (yy X W 0 0) with h0 | h0
      · exact h0.trans ((le_max_left _ _).trans this)
      · exact (EReal.neg_nonneg.mpr h0).trans ((le_max_right _ _).trans this)
    · obtain ⟨r, l, rfl⟩ : ∃ (r : Fin 512) (l : Fin 2048), y = ix2 r l := ⟨y 0, y 1, eq_ix2 y⟩
      rw [pb_yy m X W H]
      exact h _ _

end Cert.MeshProof

end
-- ==== Proof.RefValue.lean ====
/-
The reference's result as a function of its arguments, element by element.
-/
module

public import proofs.«01_k».proof.Proof.Gen.ReferenceIdeal.Value
public import proofs.«01_k».proof.Proof.Prod
public import Idealize.ShloMosaic.Lib.Pipeline.ValueKit

@[expose] public section

set_option maxRecDepth 16384

noncomputable section

namespace Cert.RefValue

open Cert.ReferenceIdeal Cert.ReferenceIdeal.Gen
open Idealize.ShloMosaic Idealize.ShloMosaic.TcCoe Idealize.ShloMosaic.ValueIdx Idealize.ShloMosaic.StableHlo
open Idealize.SL.Sem
open Idealize.ShloMosaic.Pipeline (Dat)

section Generic
variable {F : FTy → Type} [FloatOps F] (m : (ℓ : Loc nD τ sig) → Buf (Elt F) ℓ)

/-- The reference's product, -/
def dotv (x : FVec F S4096x4096 .f32) (w : FVec F S4096x8192 .f32) : FVec F S4096x8192 .f32 :=
  Host.dotGeneral dot_S4096x4096_S4096x8192_S4096x8192_1_0_0_1_n_n none x w
/-- its largest magnitude, -/
def amaxv (y : FVec F S4096x8192 .f32) : FVec F S_ .f32 :=
  Host.reduce FloatOps.maximumf (Host.absf y) (constant S_ .f32 0xFF800000#32) reducesTo_S4096x8192_S_d0_1 h_S_
/-- the scale, -/
def scalev (a : FVec F S_ .f32) : FVec F S_ .f32 := Host.divf a (constant S_ .f32 0x43E00000#32)
/-- and the quantised product. -/
def quantv (y : FVec F S4096x8192 .f32) (s : FVec F S_ .f32) : FVec F S4096x8192 .fp8e4m3 :=
  Host.convertf .fp8e4m3 (minimumf (broadcastInDim S4096x8192 ![] bcast_S_S4096x8192 (constant S_ .f32 0x43E00000#32))
    (maximumf (broadcastInDim S4096x8192 ![] bcast_S_S4096x8192 (constant S_ .f32 0xC3E00000#32))
      (Host.divf y (broadcastInDim S4096x8192 ![] bcast_S_S4096x8192 s))))

variable (c : Dev nD)

abbrev ya : FVec F S4096x8192 .f32 := dotv (m ((c : Thread nD τ).loc main_arg0)) (m ((c : Thread nD τ).loc main_arg1))

theorem v7_eq : V m c main_v7 = quantv (ya m c) (scalev (amaxv (ya m c))) := by
  unfold V
  simp only [hostOps0, hostOps0_1, hostOps0_2, List.flatten_cons, List.flatten_nil, List.append_nil, List.cons_append, List.nil_append]
  after_results
  rfl

theorem v8_eq : V m c main_v8 = shapeCast S1x1 (scalev (amaxv (ya m c))) shapeCasts_S_S1x1 := by
  unfold V
  simp only [hostOps0, hostOps0_1, hostOps0_2, List.flatten_cons, List.flatten_nil, List.append_nil, List.cons_append, List.nil_append]
  after_results
  rfl

theorem idx : ∀ t : Fin cfg0.N, win0_0.index t = ![0, 0] ∧ win0_1.index t = ![0, 0] :=
  (by decide +kernel : ∀ t : Fin grid0.N, _)

theorem iblk0 : iblk m c 0 t0_0 = V m c main_v7 := by
  blk_ext! [iblk, idx t0_0]
theorem iblk1 : iblk m c 1 t0_0 = V m c main_v8 := by
  blk_ext! [iblk, idx t0_0]

theorem final (j : S4096x8192.Idx) : (dats m 0 c).arrAt 2 cfg0.N j = Value.E2 (V m c main_v7) (V m c main_v8) j := by
  refine congrFun ((dats m 0 c).arrAt_eq_of_after_last 2 t0_0 (by decide +kernel) (Value.E2 (V m c main_v7) (V m c main_v8)) fun j => ?_) j
  blk_simp
  rw [after0_2, iblk0, iblk1]
  unfold out0_2
  rw [Value.canon2_eq]
  have h0 : View.ld (V m c main_v7 : Vec F S4096x8192 .fp8e4m3) r0_0 = V m c main_v7 := View.ld_unit_lit (S := S4096x8192) _ _ (by decide)
  have h1 : View.ld (V m c main_v8 : Vec F S1x1 .f32) r0_1 = V m c main_v8 := View.ld_unit_lit (S := S1x1) _ _ (by decide)
  exact congrFun (congr (congrArg Value.E2 h0) h1) j

/-- The one element's expression, the scale the same everywhere. -/
theorem elem (y : FVec F S4096x8192 .f32) (a : F .f32) (j : S4096x8192.Idx) :
    Value.E2 (quantv y (scalev fun _ => a)) (shapeCast S1x1 (scalev fun _ => a) shapeCasts_S_S1x1) j
      = FloatOps.truncf .bf16 bitsLt_bf16_f32 (FloatOps.mulf (FloatOps.extf .f32 bitsLt_fp8e4m3_f32
          (FloatOps.hostConvertf .fp8e4m3 (FloatOps.minimumf (FloatOps.ofBits .f32 0x43E00000#32) (FloatOps.maximumf (FloatOps.ofBits .f32 0xC3E00000#32)
            (FloatOps.hostDivf (y (Value.ix2_0 j)) (FloatOps.hostDivf a (FloatOps.ofBits .f32 0x43E00000#32)))))))
          (FloatOps.hostDivf a (FloatOps.ofBits .f32 0x43E00000#32))) := rfl

end Generic

variable (m : (ℓ : Loc nD τ sig) → Buf (Elt Ideal) ℓ) (c : Dev nD)

theorem elem_qr (y : FVec Ideal S4096x8192 .f32) (a : Ideal .f32) (r : Fin 4096) (l : Fin 8192) :
    (Value.E2 (quantv y (scalev fun _ => a)) (shapeCast S1x1 (scalev fun _ => a) shapeCasts_S_S1x1) (ValueIdx.ix2 r l) : EReal)
      = Cert.MeshProof.qr (y (ValueIdx.ix2 r l)) a := by
  have hj : Value.ix2_0 (ValueIdx.ix2 r l) = ValueIdx.ix2 r l := by funext b; fin_cases b <;> rfl
  rw [elem, hj]
  rfl

/-- The largest magnitude of the reference's product is below `B` when each magnitude is. -/
theorem amax_le (y : FVec Ideal S4096x8192 .f32) (j : S_.Idx) (B : EReal) :
    (amaxv y j : EReal) ≤ B ↔ ∀ i, max (y i : EReal) (-(y i)) ≤ B := by
  unfold amaxv
  rw [Host.reduce_eq_fold]
  have hb : (FloatOps.ofBits (F := Ideal) .f32 0xFF800000#32) = (⊥ : EReal) := Cert.MeshProof.cninf
  refine (show _ ↔ (Finset.univ.filter fun i => reducesTo_S4096x8192_S_d0_1.drop i = j).fold max (⊥ : EReal) (fun i => max (y i : EReal) (-(y i))) ≤ B
    by rw [← hb]; rfl).trans ?_
  rw [Cert.MeshProof.fold_max_bot_le]
  refine ⟨fun H i => H i (Finset.mem_filter.mpr ⟨Finset.mem_univ i, funext fun b => b.elim0⟩), fun H i _ => H i⟩

/-- The reference's result. -/
theorem result : ∃ a : EReal,
    (∀ r l, ((dats m 0 c).arrAt 2 cfg0.N (ValueIdx.ix2 r l) : EReal) = Cert.MeshProof.qr (Cert.MeshProof.yy (m ((c : Thread nD τ).loc main_arg0)) (m ((c : Thread nD τ).loc main_arg1)) r l) a)
    ∧ ∀ B, a ≤ B ↔ ∀ r l, max (Cert.MeshProof.yy (m ((c : Thread nD τ).loc main_arg0)) (m ((c : Thread nD τ).loc main_arg1)) r l)
        (-(Cert.MeshProof.yy (m ((c : Thread nD τ).loc main_arg0)) (m ((c : Thread nD τ).loc main_arg1)) r l)) ≤ B := by
  have z : S_.Idx := fun b => b.elim0
  have ha : amaxv (ya m c) = fun _ => amaxv (ya m c) z := funext fun i => congrArg (amaxv (ya m c)) (funext fun b => b.elim0)
  have hy (r : Fin 4096) (l : Fin 8192) : (ya m c (ValueIdx.ix2 r l) : EReal) = Cert.MeshProof.yy (m ((c : Thread nD τ).loc main_arg0)) (m ((c : Thread nD τ).loc main_arg1)) r l :=
    Cert.MeshProof.ref_dot _ _ r l
  refine ⟨amaxv (ya m c) z, fun r l => ?_, fun B => (amax_le _ _ _).trans ⟨fun H r l => ?_, fun H i => ?_⟩⟩
  · rw [final, v7_eq, v8_eq, ← hy, ha]
    exact elem_qr _ _ r l
  · rw [← hy]; exact H _
  · obtain ⟨r, l, rfl⟩ : ∃ (r : Fin 4096) (l : Fin 8192), i = ValueIdx.ix2 r l := ⟨i 0, i 1, ValueIdx.eq_ix2 i⟩
    rw [hy]; exact H r l

end Cert.RefValue

end
-- ==== Proof.Algebraic.lean ====
/-
The devices' results are the blocks of the reference's result.
-/
module

public import proofs.«01_k».proof.Proof.Launch
public import proofs.«01_k».proof.Proof.RefValue

@[expose] public section

set_option maxRecDepth 16384

noncomputable section

namespace Cert.MeshProof

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Bool (Elt F) ℕ UU ℕ

section Generic
variable {F : FTy → Type} [FloatOps F] (m : (ℓ : Loc nD τ sig) → Buf (Elt F) ℓ)

/-- The quantiser of a block over whole vectors. -/
def core (u v : F .f32) (y : FVec F S512x2048 .bf16) : FVec F S512x2048 .bf16 := fun p =>
  FloatOps.truncf .bf16 bitsLt_bf16_f32 (FloatOps.mulf (FloatOps.minimumf (FloatOps.ofBits .f32 0x43E00000#32) (FloatOps.maximumf (FloatOps.ofBits .f32 0xC3E00000#32)
    (FloatOps.subf (FloatOps.mulf (FloatOps.ofBits .f32 0x49800008#32) (FloatOps.mulf (FloatOps.extf .f32 bitsLt_bf16_f32 (y p)) v))
      (FloatOps.subf (FloatOps.mulf (FloatOps.ofBits .f32 0x49800008#32) (FloatOps.mulf (FloatOps.extf .f32 bitsLt_bf16_f32 (y p)) v))
        (FloatOps.mulf (FloatOps.extf .f32 bitsLt_bf16_f32 (y p)) v))))) u)

theorem pay49_core (u v : F .f32) (z : Vec F S1x512x2048 .bf16) :
    k0_pay49 u v z = shapeCast S1x512x2048 (core u v (shapeCast S512x2048 z shapeCasts_S1x512x2048_S512x2048)) shapeCasts_S512x2048_S1x512x2048 := rfl

theorem pay42_eq (v : Vec F S4x8x128 .f32) : k0_pay42 v = Scalar.divf (k0_pay41 v) (FloatOps.ofBits .f32 0x43E00000#32) := rfl
theorem pay43_eq (v : Vec F S4x8x128 .f32) : k0_pay43 v = Scalar.divf (FloatOps.ofBits .f32 0x43E00000#32) (k0_pay41 v) := rfl

theorem qt_core (c : Dev nD) (y : S512x2048.Idx → Elt F .bf16) :
    qt m c y = core (Scalar.divf (k0_pay41 (mall m c)) (FloatOps.ofBits .f32 0x43E00000#32)) (Scalar.divf (FloatOps.ofBits .f32 0x43E00000#32) (k0_pay41 (mall m c))) y := by
  unfold qt
  rw [pay42_eq, pay43_eq, pay49_core, shapeCast_shapeCast]
  unfold upy
  rw [shapeCast_shapeCast]

theorem rep_whole (v : S4096x2048.Idx → Elt F .bf16) : oM.view.rep v = v :=
  (View.read_whole main_v1_0 (oM.view.rep v)).symm.trans (View.read_rep (Val := Elt F) oM.view v)

theorem outB_eq (c : Dev nD) : outB m c = outV m c := rep_whole (outV m c)

theorem outV_at (c : Dev nD) (r : Fin 4096) (l : Fin 2048) : outV m c (ValueIdx.ix2 r l)
    = qt m c (yb m c ⟨r.val / 1024, by have : nD = 4 := rfl; omega⟩ ⟨r.val % 1024 / 512, by omega⟩) (ValueIdx.ix2 ⟨r.val % 512, by omega⟩ l) := by
  refine congrArg (qt m c (yb m c ⟨r.val / 1024, by have : nD = 4 := rfl; omega⟩ ⟨r.val % 1024 / 512, by omega⟩)) (funext fun a => Fin.ext ?_)
  fin_cases a
  · rfl
  · exact Nat.mod_eq_of_lt l.isLt

end Generic

variable (m : (ℓ : Loc nD τ sig) → Buf (Elt Ideal) ℓ)

theorem core_qk (a : Ideal .f32) (y : FVec Ideal S512x2048 .bf16) (p : S512x2048.Idx) :
    (core (Scalar.divf a (FloatOps.ofBits .f32 0x43E00000#32)) (Scalar.divf (FloatOps.ofBits .f32 0x43E00000#32) a) y p : EReal) = qk (y p) a := rfl

theorem yb_pb (c d : Dev nD) (h : Fin 2) (p : S512x2048.Idx) : (yb m c d h p : EReal) = pb m c d h p := rfl

/-- A device's result at a row and a column of its block. -/
theorem outB_at (c : Dev nD) (r : Fin 4096) (l : Fin 2048) : (outB m c (ValueIdx.ix2 r l) : EReal)
    = qk (pb m c ⟨r.val / 1024, by have : nD = 4 := rfl; omega⟩ ⟨r.val % 1024 / 512, by omega⟩ (ValueIdx.ix2 ⟨r.val % 512, by omega⟩ l)) (ka m c) := by
  rw [outB_eq, outV_at, qt_core]
  refine (core_qk _ _ _).trans ?_
  rw [yb_pb]; rfl

variable (X : Cert.ReferenceIdeal.S4096x4096.Idx → EReal) (W : Cert.ReferenceIdeal.S4096x8192.Idx → EReal)

theorem outB_yy (H : Holds m X W) (c : Dev nD) (r : Fin 4096) (l : Fin 2048) : (outB m c (ValueIdx.ix2 r l) : EReal)
    = qr (yy X W r ⟨2048 * c.val + l.val, by have := c.isLt; have : nD = 4 := rfl; omega⟩) (ka m c) := by
  have er : (⟨1024 * (r.val / 1024) + 512 * (r.val % 1024 / 512) + r.val % 512, by omega⟩ : Fin 4096) = r :=
    Fin.ext (by show 1024 * (r.val / 1024) + 512 * (r.val % 1024 / 512) + r.val % 512 = r.val; omega)
  rw [outB_at, pb_yy m X W H, er]
  exact qk_eq_qr _ _ ((ka_yy m X W H c (ka m c)).mp le_rfl _ _)

/-- The four devices' results are the blocks of the reference's. -/
theorem algebraic : Cert.algebraic_KernelIdeal_ReferenceIdeal := by
  intro m g m' g' _ H
  refine ⟨(Cert.ReferenceIdeal.Gen.dats m' 0 0).arrAt 2 Cert.ReferenceIdeal.cfg0.N, ?_, ?_⟩
  · refine (θ_run _ _ _).mono (fun r h c => ⟨((h.1 c).1).trans ?_, (h.1 c).2.1, (h.1 c).2.2⟩) (run_main m g)
    obtain ⟨a, ha, hB⟩ := Cert.RefValue.result m' 0
    have hH : Holds m (m' (((0 : Dev Cert.ReferenceIdeal.nD).tc : Thread Cert.ReferenceIdeal.nD Cert.ReferenceIdeal.τ).loc Cert.ReferenceIdeal.main_arg0))
      (m' (((0 : Dev Cert.ReferenceIdeal.nD).tc : Thread Cert.ReferenceIdeal.nD Cert.ReferenceIdeal.τ).loc Cert.ReferenceIdeal.main_arg1)) := H
    have hka : ka m c = a := eq_of_forall_ge_iff fun B => (ka_yy m _ _ hH c B).trans (hB B).symm
    funext i
    obtain ⟨r, l, rfl⟩ : ∃ (r : Fin 4096) (l : Fin 2048), i = ValueIdx.ix2 r l := ⟨i 0, i 1, ValueIdx.eq_ix2 i⟩
    refine (outB_yy m _ _ hH c r l).trans ?_
    rw [hka, Layout.block_apply]
    refine (ha r ⟨2048 * c.val + l.val, by have := c.isLt; have : nD = 4 := rfl; omega⟩).symm.trans ?_
    refine congrArg ((Cert.ReferenceIdeal.Gen.dats m' 0 0).arrAt 2 Cert.ReferenceIdeal.cfg0.N) (funext fun b => Fin.ext ?_)
    fin_cases b
    · rfl
    · show 2048 * c.val + l.val = c.val * 2048 + l.val; omega
  · exact (θ_run _ _ _).mono (fun r h => h 0) (Cert.ReferenceIdeal.Value.run_blocks m' g')

end Cert.MeshProof

end
-- ==== Proof.lean ====
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.ReferenceIdeal.Skeleton
public import proofs.«01_k».proof.Proof.Gen.ReferenceIdeal.Launch
public import proofs.«01_k».proof.Proof.Gen.ReferenceIdeal.Points
public import proofs.«01_k».proof.Proof.Gen.ReferenceIdeal.Frame
public import proofs.«01_k».proof.Proof.Gen.ReferenceIdeal.Value
public import proofs.«01_k».proof.Proof.Frames
public import proofs.«01_k».proof.Proof.Algebraic
public import Idealize.ShloMosaic.Adequacy
public import Idealize.ShloMosaic.Init

@[expose] public section

noncomputable section

namespace Cert.Proof

open Idealize.ShloMosaic Idealize.SL.Sem Cert.Kernel

theorem claim : Cert.Claim :=
  ⟨Cert.Kernel.Gen.facts, Cert.KernelIdeal.Gen.facts, Cert.ReferenceIdeal.Gen.facts, Cert.MeshProof.frame_kernel, Cert.MeshProof.frame_kernelIdeal,
    Cert.MeshProof.frame_referenceIdeal, trivial, Cert.MeshProof.algebraic⟩

end Cert.Proof

end
